-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "floor" .f32 0x0554AD2E#32 ⊥
  ∧ IdealRules.named_const.Statement Cert.KernelIdeal.κ "cap" .f32 0x7149F2CA#32 ⊤
  ∧ IdealRules.named_const.Statement Cert.KernelIdeal.κ "log_floor" .f32 0x02081CEA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x3 : Shape := ⟨3, ![16, 2048, 3]⟩
abbrev S16x3x2048 : Shape := ⟨3, ![16, 3, 2048]⟩
abbrev S16x1x128 : Shape := ⟨3, ![16, 1, 128]⟩
abbrev S1x2048x3 : Shape := ⟨3, ![1, 2048, 3]⟩
abbrev S1x3x2048 : Shape := ⟨3, ![1, 3, 2048]⟩
abbrev S1x1x128 : Shape := ⟨3, ![1, 1, 128]⟩
abbrev S2048x2048 : Shape := ⟨2, ![2048, 2048]⟩
abbrev S2048x3 : Shape := ⟨2, ![2048, 3]⟩
abbrev S3x2048 : Shape := ⟨2, ![3, 2048]⟩
abbrev S2048x1 : Shape := ⟨2, ![2048, 1]⟩
abbrev S1x2048 : Shape := ⟨2, ![1, 2048]⟩
abbrev S2048 : Shape := ⟨1, ![2048]⟩
abbrev S1x2048x1 : Shape := ⟨3, ![1, 2048, 1]⟩
abbrev S1 : Shape := ⟨1, ![1]⟩
abbrev S1x1x1 : Shape := ⟨3, ![1, 1, 1]⟩
abbrev S16x1x1 : Shape := ⟨3, ![16, 1, 1]⟩
abbrev S16 : Shape := ⟨1, ![16]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x3x2048, .f32⟩
  | .hbm, ⟨3, _⟩ => ⟨S16x1x128, .f32⟩
  | .hbm, ⟨4, _⟩ => ⟨S16x1x1, .f32⟩
  | .hbm, ⟨5, _⟩ => ⟨S16, .f32⟩
  | .hbm, ⟨6, _⟩ => ⟨S_, .f32⟩
  | .hbm, ⟨7, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x3x2048, .f32⟩
  | .local _ .vmem, ⟨3, _⟩ => ⟨S1x3x2048, .f32⟩
  | .local _ .vmem, ⟨4, _⟩ => ⟨S1x1x128, .f32⟩
  | .local _ .vmem, ⟨5, _⟩ => ⟨S1x1x128, .f32⟩
  | .local _ .vmem, ⟨6, _⟩ => ⟨S2048x2048, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c199_i32 : BitVec 32 := 199#32
  let v44 : BitVec 32 := Scalar.addi c0_i32 c199_i32
  let c1_i32 : BitVec 32 := 1#32
  ⟨c0_i32, v44, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "cap" => some ⊤
  | "floor" => some ⊥
  | "log_floor" => some ⊥
  | _ => none
-- ==== ReferenceIdeal.lean ====
abbrev S16x2048x3 : Shape := ⟨3, ![16, 2048, 3]⟩
abbrev S16x2048x1x3 : Shape := ⟨4, ![16, 2048, 1, 3]⟩
abbrev S16x1x2048x3 : Shape := ⟨4, ![16, 1, 2048, 3]⟩
abbrev S16x2048x2048x3 : Shape := ⟨4, ![16, 2048, 2048, 3]⟩
abbrev S_ : Shape := ⟨0, ![]⟩
abbrev S16x2048x2048 : Shape := ⟨3, ![16, 2048, 2048]⟩
abbrev S2048 : Shape := ⟨1, ![2048]⟩
abbrev S16x2048 : Shape := ⟨2, ![16, 2048]⟩
abbrev S16x1x2048 : Shape := ⟨3, ![16, 1, 2048]⟩
abbrev S16x2048x1 : Shape := ⟨3, ![16, 2048, 1]⟩
abbrev S16 : Shape := ⟨1, ![16]⟩

abbrev nBuf : Space → Nat
  | .hbm => 100
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x2048x1x3, .f32⟩
  | .hbm, ⟨3, _⟩ => ⟨S16x1x2048x3, .f32⟩
  | .hbm, ⟨4, _⟩ => ⟨S16x2048x2048x3, .f32⟩
  | .hbm, ⟨5, _⟩ => ⟨S16x2048x2048x3, .f32⟩
  | .hbm, ⟨6, _⟩ => ⟨S16x2048x2048x3, .f32⟩
  | .hbm, ⟨7, _⟩ => ⟨S16x2048x2048x3, .f32⟩
  | .hbm, ⟨8, _⟩ => ⟨S_, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x2048x2048, .f32⟩
  | .hbm, ⟨18, _⟩ => ⟨S_, .f32⟩
  | .hbm, ⟨19, _⟩ => ⟨S16x2048x2048, .f32⟩
  | .hbm, ⟨20, _⟩ => ⟨S16x2048x2048, .f32⟩
  | .hbm, ⟨21, _⟩ => ⟨S_, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S16x2048, .f32⟩
  | .hbm, ⟨26, _⟩ => ⟨S16x2048, .f32⟩
  | .hbm, ⟨27, _⟩ => ⟨S_, .i32⟩
  | .hbm, ⟨28, _⟩ => ⟨S_, .f32⟩
  | .hbm, ⟨29, _⟩ => ⟨S16x2048x2048, .f32⟩
  | .hbm, ⟨30, _⟩ => ⟨S_, .i32⟩
  | .hbm, ⟨31, _⟩ => ⟨S16x2048, .f32⟩
  | .hbm, ⟨32, _⟩ => ⟨S16x2048, .f32⟩
  | .hbm, ⟨33, _⟩ => ⟨S_, .i32⟩
  | .hbm, ⟨34, _⟩ => ⟨S_, .i1⟩
  | .hbm, ⟨35, _⟩ => ⟨S16x1x2048, .f32⟩
  | .hbm, ⟨36, _⟩ => ⟨S_, .f32⟩
  | .hbm, ⟨37, _⟩ => ⟨S16x1x2048, .f32⟩
  | .hbm, ⟨38, _⟩ => ⟨S16x1x2048, .f32⟩
  | .hbm, ⟨39, _⟩ => ⟨S16x1x2048, .f32⟩
  | .hbm, ⟨40, _⟩ => ⟨S16x1x2048, .f32⟩
  | .hbm, ⟨41, _⟩ => ⟨S16x2048x2048, .f32⟩
  | .hbm, ⟨42, _⟩ => ⟨S16x2048x2048, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S16x2048x2048, .f32⟩
  | .hbm, ⟨47, _⟩ => ⟨S16x2048x2048, .f32⟩
  | .hbm, ⟨48, _⟩ => ⟨S16x2048x2048, .f32⟩
  | .hbm, ⟨49, _⟩ => ⟨S_, .f32⟩
  | .hbm, ⟨50, _⟩ => ⟨S16x2048, .f32⟩
  | .hbm, ⟨51, _⟩ => ⟨S16x2048, .f32⟩
  | .hbm, ⟨52, _⟩ => ⟨S16x2048, .f32⟩
  | .hbm, ⟨53, _⟩ => ⟨S16x2048, .f32⟩
  | .hbm, ⟨54, _⟩ => ⟨S_, .f32⟩
  | .hbm, ⟨55, _⟩ => ⟨S16x2048, .f32⟩
  | .hbm, ⟨56, _⟩ => ⟨S16x2048, .f32⟩
  | .hbm, ⟨57, _⟩ => ⟨S16x2048x1, .f32⟩
  | .hbm, ⟨58, _⟩ => ⟨S_, .f32⟩
  | .hbm, ⟨59, _⟩ => ⟨S16x2048x1, .f32⟩
  | .hbm, ⟨60, _⟩ => ⟨S16x2048x1, .f32⟩
  | .hbm, ⟨61, _⟩ => ⟨S16x2048x1, .f32⟩
  | .hbm, ⟨62, _⟩ => ⟨S16x2048x1, .f32⟩
  | .hbm, ⟨63, _⟩ => ⟨S16x2048x2048, .f32⟩
  | .hbm, ⟨64, _⟩ => ⟨S16x2048x2048, .f32⟩
  | .hbm, ⟨65, _⟩ => ⟨S_, .f32⟩
  | .hbm, ⟨66, _⟩ => ⟨S16x2048, .f32⟩
  | .hbm, ⟨67, _⟩ => ⟨S16x1x2048, .f32⟩
  | .hbm, ⟨68, _⟩ => ⟨S16x2048x2048, .f32⟩
  | .hbm, ⟨69, _⟩ => ⟨S16x2048x2048, .f32⟩
  | .hbm, ⟨70, _⟩ => ⟨S16x2048x2048, .f32⟩
  | .hbm, ⟨71, _⟩ => ⟨S_, .f32⟩
  | .hbm, ⟨72, _⟩ => ⟨S16x2048, .f32⟩
  | .hbm, ⟨73, _⟩ => ⟨S16x2048, .f32⟩
  | .hbm, ⟨74, _⟩ => ⟨S16x2048, .f32⟩
  | .hbm, ⟨75, _⟩ => ⟨S16x2048, .f32⟩
  | .hbm, ⟨76, _⟩ => ⟨S_, .f32⟩
  | .hbm, ⟨77, _⟩ => ⟨S16x2048, .f32⟩
  | .hbm, ⟨78, _⟩ => ⟨S16x2048, .f32⟩
  | .hbm, ⟨79, _⟩ => ⟨S_, .i32⟩
  | .hbm, ⟨80, _⟩ => ⟨S_, .i32⟩
  | .hbm, ⟨81, _⟩ => ⟨S_, .f32⟩
  | .hbm, ⟨82, _⟩ => ⟨S_, .f32⟩
  | .hbm, ⟨83, _⟩ => ⟨S16x2048x1, .f32⟩
  | .hbm, ⟨84, _⟩ => ⟨S16x1x2048, .f32⟩
  | .hbm, ⟨85, _⟩ => ⟨S16x2048x2048, .f32⟩
  | .hbm, ⟨86, _⟩ => ⟨S16x2048x2048, .f32⟩
  | .hbm, ⟨87, _⟩ => ⟨S16x2048x2048, .f32⟩
  | .hbm, ⟨88, _⟩ => ⟨S_, .f32⟩
  | .hbm, ⟨89, _⟩ => ⟨S16x2048x2048, .f32⟩
  | .hbm, ⟨90, _⟩ => ⟨S16x2048x2048, .f32⟩
  | .hbm, ⟨91, _⟩ => ⟨S16x2048x2048, .f32⟩
  | .hbm, ⟨92, _⟩ => ⟨S16x2048x2048, .f32⟩
  | .hbm, ⟨93, _⟩ => ⟨S16x2048x2048, .f32⟩
  | .hbm, ⟨94, _⟩ => ⟨S16x2048x2048, .f32⟩
  | .hbm, ⟨95, _⟩ => ⟨S16x2048x2048, .f32⟩
  | .hbm, ⟨96, _⟩ => ⟨S_, .f32⟩
  | .hbm, ⟨97, _⟩ => ⟨S16, .f32⟩
  | .hbm, ⟨98, _⟩ => ⟨S_, .f32⟩
  | .hbm, ⟨99, _⟩ => ⟨S_, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev main_while0c_c_13 : Ref sig .tc := ⟨.hbm, 33, rfl⟩
abbrev main_while0c_v35 : Ref sig .tc := ⟨.hbm, 34, rfl⟩
abbrev main_while0b_v35 : Ref sig .tc := ⟨.hbm, 35, rfl⟩
abbrev main_while0b_cst_13 : Ref sig .tc := ⟨.hbm, 36, rfl⟩
abbrev main_while0b_v36 : Ref sig .tc := ⟨.hbm, 37, rfl⟩
abbrev main_while0b_v37 : Ref sig .tc := ⟨.hbm, 38, rfl⟩
abbrev main_while0b_v38 : Ref sig .tc := ⟨.hbm, 39, rfl⟩
abbrev main_while0b_v39 : Ref sig .tc := ⟨.hbm, 40, rfl⟩
abbrev main_while0b_v40 : Ref sig .tc := ⟨.hbm, 41, rfl⟩
abbrev main_while0b_v41 : Ref sig .tc := ⟨.hbm, 42, rfl⟩
abbrev main_while0b_cst_14 : Ref sig .tc := ⟨.hbm, 43, rfl⟩
abbrev main_while0b_v42 : Ref sig .tc := ⟨.hbm, 44, rfl⟩
abbrev main_while0b_v43 : Ref sig .tc := ⟨.hbm, 45, rfl⟩
abbrev main_while0b_v44 : Ref sig .tc := ⟨.hbm, 46, rfl⟩
abbrev main_while0b_v45 : Ref sig .tc := ⟨.hbm, 47, rfl⟩
abbrev main_while0b_v46 : Ref sig .tc := ⟨.hbm, 48, rfl⟩
abbrev main_while0b_cst_15 : Ref sig .tc := ⟨.hbm, 49, rfl⟩
abbrev main_while0b_v47 : Ref sig .tc := ⟨.hbm, 50, rfl⟩
abbrev main_while0b_v48 : Ref sig .tc := ⟨.hbm, 51, rfl⟩
abbrev main_while0b_v49 : Ref sig .tc := ⟨.hbm, 52, rfl⟩
abbrev main_while0b_v50 : Ref sig .tc := ⟨.hbm, 53, rfl⟩
abbrev main_while0b_cst_16 : Ref sig .tc := ⟨.hbm, 54, rfl⟩
abbrev main_while0b_v51 : Ref sig .tc := ⟨.hbm, 55, rfl⟩
abbrev main_while0b_v52 : Ref sig .tc := ⟨.hbm, 56, rfl⟩
abbrev main_while0b_v53 : Ref sig .tc := ⟨.hbm, 57, rfl⟩
abbrev main_while0b_cst_17 : Ref sig .tc := ⟨.hbm, 58, rfl⟩
abbrev main_while0b_v54 : Ref sig .tc := ⟨.hbm, 59, rfl⟩
abbrev main_while0b_v55 : Ref sig .tc := ⟨.hbm, 60, rfl⟩
abbrev main_while0b_v56 : Ref sig .tc := ⟨.hbm, 61, rfl⟩
abbrev main_while0b_v57 : Ref sig .tc := ⟨.hbm, 62, rfl⟩
abbrev main_while0b_v58 : Ref sig .tc := ⟨.hbm, 63, rfl⟩
abbrev main_while0b_v59 : Ref sig .tc := ⟨.hbm, 64, rfl⟩
abbrev main_while0b_cst_18 : Ref sig .tc := ⟨.hbm, 65, rfl⟩
abbrev main_while0b_v60 : Ref sig .tc := ⟨.hbm, 66, rfl⟩
abbrev main_while0b_v61 : Ref sig .tc := ⟨.hbm, 67, rfl⟩
abbrev main_while0b_v62 : Ref sig .tc := ⟨.hbm, 68, rfl⟩
abbrev main_while0b_v63 : Ref sig .tc := ⟨.hbm, 69, rfl⟩
abbrev main_while0b_v64 : Ref sig .tc := ⟨.hbm, 70, rfl⟩
abbrev main_while0b_cst_19 : Ref sig .tc := ⟨.hbm, 71, rfl⟩
abbrev main_while0b_v65 : Ref sig .tc := ⟨.hbm, 72, rfl⟩
abbrev main_while0b_v66 : Ref sig .tc := ⟨.hbm, 73, rfl⟩
abbrev main_while0b_v67 : Ref sig .tc := ⟨.hbm, 74, rfl⟩
abbrev main_while0b_v68 : Ref sig .tc := ⟨.hbm, 75, rfl⟩
abbrev main_while0b_cst_20 : Ref sig .tc := ⟨.hbm, 76, rfl⟩
abbrev main_while0b_v69 : Ref sig .tc := ⟨.hbm, 77, rfl⟩
abbrev main_while0b_v70 : Ref sig .tc := ⟨.hbm, 78, rfl⟩
abbrev main_while0b_c_21 : Ref sig .tc := ⟨.hbm, 79, rfl⟩
abbrev main_while0b_v71 : Ref sig .tc := ⟨.hbm, 80, rfl⟩
abbrev main_cst_5 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst_6 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_cst_7 : Ref sig .tc := ⟨.hbm, 96, rfl⟩
abbrev main_v33 : Ref sig .tc := ⟨.hbm, 97, rfl⟩
abbrev main_cst_8 : Ref sig .tc := ⟨.hbm, 98, rfl⟩
abbrev main_v34 : Ref sig .tc := ⟨.hbm, 99, rfl⟩

abbrev nD : Nat := 1
abbrev τ : Topo := Topo.v7x

variable {F : FTy → Type} [FloatOps F]

abbrev main_while0_count : Scf.Loop 32 := ⟨0#32, 200#32, 1#32⟩
-- ==== Proof.Sinkhorn.lean ====
/- The mathematics of the certificate, with no program in it: over the extended reals, the scaling iteration with a
   row-shifted weight matrix and the log-domain iteration give the same transport cost.

   The cost matrix is `C i j`, a real number where both points are finite and `⊤` where one of them is not. A row or a
   column whose costs are all `⊤` is called dead; nothing is asked of the potentials and the scalings there, for every
   product or sum they enter has a factor `0` or a summand `⊥`. -/
module

public import Idealize.ShloMosaic.PureOps.Ideal
public import Mathlib.Analysis.SpecialFunctions.Log.Basic

@[expose] public section

noncomputable section

namespace Cert.Sinkhorn

open Idealize.ShloMosaic

variable {ι κ : Type} [Fintype ι] [Fintype κ]

/-- The greatest entry of a family, `⊥` for an empty one. -/
def top (z : κ → EReal) : EReal := Finset.univ.fold max ⊥ z

/-- The logarithm of a sum of exponentials, with the greatest exponent taken out first. -/
def logSumExp (z : κ → EReal) : EReal := Ideal.log (∑ j, Ideal.exp (z j - top z)) + top z

/-- Minus the cost over the temperature. -/
def negCost (e : ℝ) (C : ι → κ → EReal) (i : ι) (j : κ) : EReal := Ideal.div (-(C i j)) (e : EReal)

/-! ## The kernel's quantities -/

/-- Minus the greatest entry of row `i`. -/
def shift (e : ℝ) (C : ι → κ → EReal) (i : ι) : EReal := -(top (negCost e C i))

/-- The row-shifted weights. -/
def weight (e : ℝ) (C : ι → κ → EReal) (i : ι) (j : κ) : EReal := Ideal.exp (negCost e C i j + shift e C i)

/-- The row scaling from a column scaling. -/
def rowScale (w : ℝ) (K : ι → κ → EReal) (v : κ → EReal) (i : ι) : EReal := Ideal.div (w : EReal) (∑ j, K i j * v j)

/-- The column scaling from a row scaling. -/
def colScale (w : ℝ) (K : ι → κ → EReal) (u : ι → EReal) (j : κ) : EReal := Ideal.div (w : EReal) (∑ i, K i j * u i)

/-- One trip of the scaling iteration, on the column scaling. -/
def scaleTrip (w : ℝ) (K : ι → κ → EReal) (v : κ → EReal) : κ → EReal := colScale w K (rowScale w K v)

/-- The transport cost from the weights and the two scalings, the cost read back from the weight. -/
def scaledTotal (e : ℝ) (K : ι → κ → EReal) (al : ι → EReal) (u : ι → EReal) (v : κ → EReal) : EReal :=
  ∑ i, u i * ∑ j, K i j * ((e : EReal) * (al i - Ideal.log (K i j))) * v j

/-- What the kernel computes from a cost matrix: `n` trips from the constant scaling `w`, one more of each half. -/
def kernelTotal (e w : ℝ) (n : ℕ) (C : ι → κ → EReal) : EReal :=
  let K := weight e C
  let v := (scaleTrip w K)^[n] fun _ => (w : EReal)
  scaledTotal e K (shift e C) (rowScale w K v) (scaleTrip w K v)

/-! ## The reference's quantities -/

/-- The row potential from a column potential. -/
def rowPot (e : ℝ) (lw : EReal) (N : ι → κ → EReal) (g : κ → EReal) (i : ι) : EReal :=
  ((-e : ℝ) : EReal) * logSumExp fun j => lw + Ideal.div (g j) (e : EReal) + N i j

/-- The column potential from a row potential. -/
def colPot (e : ℝ) (lw : EReal) (N : ι → κ → EReal) (f : ι → EReal) (j : κ) : EReal :=
  ((-e : ℝ) : EReal) * logSumExp fun i => lw + Ideal.div (f i) (e : EReal) + N i j

/-- One trip of the log-domain iteration, on the column potential. -/
def potTrip (e : ℝ) (lw : EReal) (N : ι → κ → EReal) (g : κ → EReal) : κ → EReal := colPot e lw N (rowPot e lw N g)

/-- The transport cost from the two potentials. -/
def potTotal (e : ℝ) (lw : EReal) (C : ι → κ → EReal) (f : ι → EReal) (g : κ → EReal) : EReal :=
  ∑ i, ∑ j, Ideal.exp (((2 : ℝ) : EReal) * lw + Ideal.div (f i + g j) (e : EReal) + negCost e C i j) * C i j

/-- What the reference computes from a cost matrix in `n + 1` trips from the zero potential. -/
def referenceTotal (e : ℝ) (lw : EReal) (n : ℕ) (C : ι → κ → EReal) : EReal :=
  let N := negCost e C
  let g := (potTrip e lw N)^[n] fun _ => 0
  potTotal e lw C (rowPot e lw N g) (potTrip e lw N g)

/-! ## Sums and quotients of real entries -/

/-- The coercion from the reals commutes with finite sums. -/
theorem coe_sum (f : κ → ℝ) : ((∑ j, f j : ℝ) : EReal) = ∑ j, (f j : EReal) := by
  classical
  induction (Finset.univ : Finset κ) using Finset.induction_on with
  | empty => simp
  | insert a s ha ih => rw [Finset.sum_insert ha, Finset.sum_insert ha, EReal.coe_add, ih]

/-- The quotient of two reals, the divisor not zero, is the real quotient. -/
theorem div_real {y : ℝ} (h : y ≠ 0) (x : ℝ) : Ideal.div (x : EReal) (y : EReal) = ((x / y : ℝ) : EReal) := by
  rw [Ideal.div_coe h, ← EReal.coe_mul]; congr 1; field_simp

/-- `⊥` over a positive real is `⊥`. -/
theorem div_bot {y : ℝ} (h : 0 < y) : Ideal.div ⊥ (y : EReal) = ⊥ := by
  rw [Ideal.div_coe h.ne']; exact EReal.bot_mul_coe_of_pos (by positivity)

/-- The sum over the live entries is positive as soon as one entry is live. -/
theorem live_sum_pos (b : κ → Prop) [DecidablePred b] (x : κ → ℝ) (hx : ∀ j, 0 < x j) (hb : ∃ j, b j) :
    0 < ∑ j, if b j then x j else 0 := by
  obtain ⟨j, hj⟩ := hb
  refine Finset.sum_pos' (fun i _ => ?_) ⟨j, Finset.mem_univ j, ?_⟩
  · split_ifs
    exacts [(hx i).le, le_rfl]
  · rw [if_pos hj]; exact hx j

/-- The greatest entry of a family that is real where `b` holds and `⊥` elsewhere is real, if `b` holds somewhere. -/
theorem top_real (b : κ → Prop) [DecidablePred b] (z : κ → EReal) (r : κ → ℝ)
    (hz : ∀ j, z j = if b j then (r j : EReal) else ⊥) (hb : ∃ j, b j) : ∃ M : ℝ, top z = (M : EReal) := by
  obtain ⟨j, hj⟩ := hb
  have hs : top z = Finset.univ.sup z := rfl
  obtain ⟨i, -, hi⟩ := Finset.exists_mem_eq_sup Finset.univ ⟨j, Finset.mem_univ j⟩ z
  by_cases hbi : b i
  · exact ⟨r i, by rw [hs, hi, hz i, if_pos hbi]⟩
  · exfalso
    have h1 : z j ≤ Finset.univ.sup z := Finset.le_sup (Finset.mem_univ j)
    rw [hi, hz i, if_neg hbi, hz j, if_pos hj] at h1
    exact EReal.coe_ne_bot _ (le_bot_iff.mp h1)

/-- The shifted logarithm of a sum of exponentials is the plain one, of the live entries. -/
theorem logSumExp_real (b : κ → Prop) [DecidablePred b] (z : κ → EReal) (r : κ → ℝ)
    (hz : ∀ j, z j = if b j then (r j : EReal) else ⊥) (hb : ∃ j, b j) :
    logSumExp z = ((Real.log (∑ j, if b j then Real.exp (r j) else 0) : ℝ) : EReal) := by
  obtain ⟨M, hM⟩ := top_real b z r hz hb
  have he : ∀ j, Ideal.exp (z j - top z) = ((if b j then Real.exp (r j - M) else 0 : ℝ) : EReal) := by
    intro j
    rw [hM, hz j]
    split_ifs
    · rw [← EReal.coe_sub, Ideal.exp_coe]
    · rw [EReal.bot_sub, Ideal.exp_bot, EReal.coe_zero]
  have hpos := live_sum_pos b (fun j => Real.exp (r j - M)) (fun j => Real.exp_pos _) hb
  have hfac : (∑ j, if b j then Real.exp (r j) else 0) = (∑ j, if b j then Real.exp (r j - M) else 0) * Real.exp M := by
    rw [Finset.sum_mul]
    refine Finset.sum_congr rfl fun j _ => ?_
    split_ifs
    · rw [← Real.exp_add]; congr 1; ring
    · rw [zero_mul]
  unfold logSumExp
  simp only [he]
  rw [← coe_sum, Ideal.log_coe, if_neg (not_le.mpr hpos), hM, ← EReal.coe_add, hfac,
    Real.log_mul hpos.ne' (Real.exp_pos M).ne', Real.log_exp]

/-! ## One half step -/

/-- The real half step: the potential from a potential `G` along the exponents `n`, over the live entries. -/
def half (e w : ℝ) (b : κ → Prop) [DecidablePred b] (n G : κ → ℝ) : ℝ :=
  -e * Real.log (∑ j, if b j then w * Real.exp (G j / e + n j) else 0)

/-- The reference's half step is the real one. -/
theorem pot_half (e w lw : ℝ) (he : 0 < e) (hw : Real.exp lw = w) (b : κ → Prop) [DecidablePred b] (hb : ∃ j, b j)
    (g N : κ → EReal) (n G : κ → ℝ) (hN : ∀ j, N j = if b j then (n j : EReal) else ⊥)
    (hg : ∀ j, b j → g j = (G j : EReal)) :
    ((-e : ℝ) : EReal) * logSumExp (fun j => (lw : EReal) + Ideal.div (g j) (e : EReal) + N j)
      = ((half e w b n G : ℝ) : EReal) := by
  rw [logSumExp_real b _ (fun j => lw + G j / e + n j) _ hb, ← EReal.coe_mul]
  · unfold half
    congr 3
    refine Finset.sum_congr rfl fun j _ => ?_
    split_ifs
    · rw [add_assoc, Real.exp_add, hw]
    · rfl
  · intro j
    rw [hN j]
    split_ifs with h
    · rw [hg j h, div_real he.ne', ← EReal.coe_add, ← EReal.coe_add]
    · rw [EReal.add_bot]

/-- The kernel's half step is the real one: along entries that are `exp t` times the real ones, the scaling is
    `exp (-t)` times the exponential of the real potential. -/
theorem scale_half (e w t : ℝ) (he : 0 < e) (hw : 0 < w) (b : κ → Prop) [DecidablePred b] (hb : ∃ j, b j)
    (p : κ → EReal) (n G : κ → ℝ)
    (hp : ∀ j, p j = ((if b j then Real.exp t * (w * Real.exp (G j / e + n j)) else 0 : ℝ) : EReal)) :
    Ideal.div (w : EReal) (∑ j, p j) = ((w * Real.exp (half e w b n G / e - t) : ℝ) : EReal) := by
  have hpos := live_sum_pos b (fun j => w * Real.exp (G j / e + n j)) (fun j => mul_pos hw (Real.exp_pos _)) hb
  have hsum : (∑ j, p j) = ((Real.exp t * ∑ j, if b j then w * Real.exp (G j / e + n j) else 0 : ℝ) : EReal) := by
    simp only [hp]
    rw [← coe_sum, Finset.mul_sum]
    congr 1
    refine Finset.sum_congr rfl fun j _ => ?_
    split_ifs
    · rfl
    · rw [mul_zero]
  rw [hsum, div_real (mul_pos (Real.exp_pos t) hpos).ne']
  congr 1
  have h1 : half e w b n G / e = -Real.log (∑ j, if b j then w * Real.exp (G j / e + n j) else 0) := by
    unfold half; field_simp
  rw [h1, Real.exp_sub, Real.exp_neg, Real.exp_log hpos]
  field_simp

/-! ## The two iterations side by side

The hypotheses of the section: temperature and marginal are positive, `lw` is the marginal's logarithm; the cost is
real where the row and the column are live and `⊤` elsewhere; a live row has a live column and conversely. -/

section Agree

variable (e w lw : ℝ) (a : ι → Prop) (b : κ → Prop) [DecidablePred a] [DecidablePred b]
  (C : ι → κ → EReal) (c : ι → κ → ℝ)

/-- What the section supposes of its data. -/
structure Data : Prop where
  e_pos : 0 < e
  w_pos : 0 < w
  exp_lw : Real.exp lw = w
  cost : ∀ i j, C i j = if a i ∧ b j then (c i j : EReal) else ⊤
  row : ∀ i, a i → ∃ j, b j
  col : ∀ j, b j → ∃ i, a i

variable {e w lw a b C c}

/-- Minus the cost over the temperature is real where the cost is and `⊥` elsewhere. -/
theorem Data.negCost (h : Data e w lw a b C c) (i : ι) (j : κ) :
    negCost e C i j = if a i ∧ b j then ((-(c i j) / e : ℝ) : EReal) else ⊥ := by
  unfold Sinkhorn.negCost
  rw [h.cost]
  split_ifs
  · rw [← EReal.coe_neg, div_real h.e_pos.ne']
  · rw [EReal.neg_top, div_bot h.e_pos]

/-- In a live row the exponents are real in the live columns. -/
theorem Data.negCost_row (h : Data e w lw a b C c) {i : ι} (hi : a i) (j : κ) :
    Sinkhorn.negCost e C i j = if b j then ((-(c i j) / e : ℝ) : EReal) else ⊥ := by
  rw [h.negCost]; simp only [hi, true_and]

/-- In a live column the exponents are real in the live rows. -/
theorem Data.negCost_col (h : Data e w lw a b C c) {j : κ} (hj : b j) (i : ι) :
    Sinkhorn.negCost e C i j = if a i then ((-(c i j) / e : ℝ) : EReal) else ⊥ := by
  rw [h.negCost]; simp only [hj, and_true]

/-- In a live row the shift is real. -/
theorem Data.shift (h : Data e w lw a b C c) {i : ι} (hi : a i) : ∃ t : ℝ, shift e C i = (t : EReal) := by
  obtain ⟨M, hM⟩ := top_real b (Sinkhorn.negCost e C i) _ (h.negCost_row hi) (h.row i hi)
  exact ⟨-M, by rw [Sinkhorn.shift, hM, EReal.coe_neg]⟩

/-- The row's shift as a real number. -/
def t (e : ℝ) (C : ι → κ → EReal) (i : ι) : ℝ := (shift e C i).toReal

theorem Data.shift_eq (h : Data e w lw a b C c) {i : ι} (hi : a i) : Sinkhorn.shift e C i = (t e C i : EReal) := by
  obtain ⟨x, hx⟩ := h.shift hi
  rw [t, hx, EReal.toReal_coe]

/-- The weights: the exponential of a real where row and column are live, else zero. -/
theorem Data.weight (h : Data e w lw a b C c) (i : ι) (j : κ) :
    weight e C i j = ((if a i ∧ b j then Real.exp (-(c i j) / e + t e C i) else 0 : ℝ) : EReal) := by
  unfold Sinkhorn.weight
  rw [h.negCost]
  split_ifs with hij
  · rw [h.shift_eq hij.1, ← EReal.coe_add, Ideal.exp_coe]
  · rw [EReal.bot_add, Ideal.exp_bot, EReal.coe_zero]

/-- A column scaling and a column potential belong together: in the live columns the potential is a real `G j` and the
    scaling is `w * exp (G j / e)`. -/
def Cols (e w : ℝ) (b : κ → Prop) (v g : κ → EReal) : Prop :=
  ∃ G : κ → ℝ, ∀ j, b j → v j = ((w * Real.exp (G j / e) : ℝ) : EReal) ∧ g j = (G j : EReal)

/-- A row scaling and a row potential belong together: the same with the row's shift taken off. -/
def Rows (e w : ℝ) (a : ι → Prop) (C : ι → κ → EReal) (u f : ι → EReal) : Prop :=
  ∃ F : ι → ℝ, ∀ i, a i → u i = ((w * Real.exp (F i / e - t e C i) : ℝ) : EReal) ∧ f i = (F i : EReal)

/-- The row half steps keep scaling and potential together. -/
theorem Data.rows (h : Data e w lw a b C c) {v g : κ → EReal} (hvg : Cols e w b v g) :
    Rows e w a C (rowScale w (Sinkhorn.weight e C) v) (rowPot e lw (Sinkhorn.negCost e C) g) := by
  obtain ⟨G, hG⟩ := hvg
  refine ⟨fun i => half e w b (fun j => -(c i j) / e) G, fun i hi => ⟨?_, ?_⟩⟩
  · refine scale_half e w (t e C i) h.e_pos h.w_pos b (h.row i hi) _ (fun j => -(c i j) / e) G fun j => ?_
    rw [h.weight]
    by_cases hj : b j
    · rw [if_pos ⟨hi, hj⟩, if_pos hj, (hG j hj).1, ← EReal.coe_mul]
      congr 1
      rw [Real.exp_add, Real.exp_add]; ring
    · rw [if_neg (fun x => hj x.2), if_neg hj, EReal.coe_zero, zero_mul]
  · exact pot_half e w lw h.e_pos h.exp_lw b (h.row i hi) g _ _ G (h.negCost_row hi) fun j hj => (hG j hj).2

/-- The column half steps keep scaling and potential together. -/
theorem Data.cols (h : Data e w lw a b C c) {u f : ι → EReal} (huf : Rows e w a C u f) :
    Cols e w b (colScale w (Sinkhorn.weight e C) u) (colPot e lw (Sinkhorn.negCost e C) f) := by
  obtain ⟨F, hF⟩ := huf
  refine ⟨fun j => half e w a (fun i => -(c i j) / e) F, fun j hj => ⟨?_, ?_⟩⟩
  · have key := scale_half e w 0 h.e_pos h.w_pos a (h.col j hj) (fun i => Sinkhorn.weight e C i j * u i)
      (fun i => -(c i j) / e) F fun i => by
        show Sinkhorn.weight e C i j * u i = _
        rw [h.weight]
        by_cases hi : a i
        · rw [if_pos ⟨hi, hj⟩, if_pos hi, (hF i hi).1, ← EReal.coe_mul]
          congr 1
          rw [Real.exp_zero, one_mul, mul_left_comm, ← Real.exp_add]
          congr 2; ring
        · rw [if_neg (fun x => hi x.1), if_neg hi, EReal.coe_zero, zero_mul]
    rw [sub_zero] at key
    exact key
  · exact pot_half e w lw h.e_pos h.exp_lw a (h.col j hj) f _ _ F (h.negCost_col hj) fun i hi => (hF i hi).2

/-- After any number of trips scaling and potential belong together. -/
theorem Data.trips (h : Data e w lw a b C c) : ∀ n : ℕ,
    Cols e w b ((scaleTrip w (Sinkhorn.weight e C))^[n] fun _ => (w : EReal))
      ((potTrip e lw (Sinkhorn.negCost e C))^[n] fun _ => 0)
  | 0 => ⟨fun _ => 0, fun j _ => by
      rw [zero_div, Real.exp_zero, mul_one]; exact ⟨rfl, EReal.coe_zero.symm⟩⟩
  | n + 1 => by
    rw [Function.iterate_succ_apply', Function.iterate_succ_apply']
    exact h.cols (h.rows (h.trips n))

/-- Of scalings and potentials that belong together the two transport costs are one number. -/
theorem Data.totals (h : Data e w lw a b C c) {u f : ι → EReal} {v g : κ → EReal} (huf : Rows e w a C u f)
    (hvg : Cols e w b v g) :
    scaledTotal e (Sinkhorn.weight e C) (Sinkhorn.shift e C) u v = potTotal e lw C f g := by
  obtain ⟨F, hF⟩ := huf
  obtain ⟨G, hG⟩ := hvg
  unfold scaledTotal potTotal
  refine Finset.sum_congr rfl fun i _ => ?_
  by_cases hi : a i
  · have hl : ∀ j, Sinkhorn.weight e C i j * ((e : EReal) * (Sinkhorn.shift e C i - Ideal.log (Sinkhorn.weight e C i j))) * v j
        = ((if b j then Real.exp (-(c i j) / e + t e C i) * c i j * (w * Real.exp (G j / e)) else 0 : ℝ) : EReal) := by
      intro j
      rw [h.weight, h.shift_eq hi]
      by_cases hj : b j
      · rw [if_pos ⟨hi, hj⟩, if_pos hj, (hG j hj).1, Ideal.log_coe, if_neg (not_le.mpr (Real.exp_pos _)), Real.log_exp,
          ← EReal.coe_sub, ← EReal.coe_mul, ← EReal.coe_mul, ← EReal.coe_mul]
        have he := h.e_pos.ne'
        congr 3
        field_simp; ring
      · rw [if_neg (fun x => hj x.2), if_neg hj, EReal.coe_zero, zero_mul, zero_mul]
    simp only [hl]
    rw [← coe_sum, (hF i hi).1, ← EReal.coe_mul, Finset.mul_sum, coe_sum]
    refine Finset.sum_congr rfl fun j _ => ?_
    rw [h.negCost_row hi]
    by_cases hj : b j
    · rw [if_pos hj, if_pos hj, (hF i hi).2, (hG j hj).2, h.cost, if_pos ⟨hi, hj⟩, ← EReal.coe_add,
        div_real h.e_pos.ne', ← EReal.coe_mul, ← EReal.coe_add, ← EReal.coe_add, Ideal.exp_coe, ← EReal.coe_mul]
      congr 1
      have h2 : Real.exp (2 * lw) = w * w := by rw [two_mul, Real.exp_add, h.exp_lw]
      rw [Real.exp_add (2 * lw + _), Real.exp_add (2 * lw), h2, add_div, Real.exp_add (F i / e), Real.exp_sub,
        Real.exp_add (-(c i j) / e)]
      have ht := (Real.exp_pos (t e C i)).ne'
      field_simp
    · rw [if_neg hj, if_neg hj, mul_zero, EReal.add_bot, Ideal.exp_bot, zero_mul, EReal.coe_zero]
  · have hl : ∀ j, Sinkhorn.weight e C i j = 0 := fun j => by
      rw [h.weight, if_neg (fun x => hi x.1), EReal.coe_zero]
    simp only [hl, zero_mul, Finset.sum_const_zero, mul_zero]
    refine (Finset.sum_eq_zero fun j _ => ?_).symm
    rw [h.negCost, if_neg (fun x => hi x.1), EReal.add_bot, Ideal.exp_bot, zero_mul]

/-- The kernel's and the reference's transport costs of one cost matrix are equal. -/
theorem Data.agree (h : Data e w lw a b C c) (n : ℕ) : kernelTotal e w n C = referenceTotal e lw n C := by
  have hn := h.trips n
  exact h.totals (h.rows hn) (h.cols (h.rows hn))

end Agree

/-- The two transport costs are equal for every cost matrix whose entry is real where the row's point and the column's
    point are finite, and `⊤` elsewhere. -/
theorem total_eq (e w lw : ℝ) (he : 0 < e) (hw : 0 < w) (hlw : Real.exp lw = w) (n : ℕ) (C : ι → κ → EReal)
    (A : ι → Prop) (B : κ → Prop) (hfin : ∀ i j, A i → B j → ∃ r : ℝ, C i j = (r : EReal))
    (hinf : ∀ i j, ¬(A i ∧ B j) → C i j = ⊤) : kernelTotal e w n C = referenceTotal e lw n C := by
  classical
  refine Data.agree (a := fun i => A i ∧ ∃ j, B j) (b := fun j => B j ∧ ∃ i, A i) (c := fun i j => (C i j).toReal)
    ⟨he, hw, hlw, fun i j => ?_, fun i ⟨hi, j, hj⟩ => ⟨j, hj, i, hi⟩, fun j ⟨hj, i, hi⟩ => ⟨i, hi, j, hj⟩⟩ n
  by_cases hij : A i ∧ B j
  · obtain ⟨r, hr⟩ := hfin i j hij.1 hij.2
    rw [if_pos ⟨⟨hij.1, j, hij.2⟩, hij.2, i, hij.1⟩, hr, EReal.toReal_coe]
  · rw [if_neg (fun x => hij ⟨x.1.1, x.2.1⟩), hinf i j hij]

/-! ## The cost of two points -/

/-- The distance of two points of three-dimensional space, with a small number under the root. -/
def distance (q : EReal) (x y : Fin 3 → EReal) : EReal := Ideal.sqrt ((∑ k, (x k - y k) * (x k - y k)) + q)

/-- A point is finite when its three coordinates are real. -/
def Finite (x : Fin 3 → EReal) : Prop := ∀ k, ∃ r : ℝ, x k = (r : EReal)

/-- The squared difference of two extended reals is a nonnegative real, or `⊤`. -/
theorem sq_cases (x y : EReal) :
    (∃ r : ℝ, 0 ≤ r ∧ (x - y) * (x - y) = (r : EReal)) ∨ (x - y) * (x - y) = ⊤ := by
  induction x with
  | bot => right; rw [EReal.bot_sub]; rfl
  | top =>
    right
    induction y with
    | bot => rfl
    | top => rfl
    | coe y => rw [EReal.top_sub_coe]; rfl
  | coe x =>
    induction y with
    | bot => right; rfl
    | top => right; rfl
    | coe y => left; exact ⟨(x - y) * (x - y), mul_self_nonneg _, by rw [← EReal.coe_sub, ← EReal.coe_mul]⟩

/-- If one of two extended reals is infinite, the square of their difference is `⊤`. -/
theorem sq_top {x y : EReal} (h : ¬((∃ r : ℝ, x = (r : EReal)) ∧ ∃ r : ℝ, y = (r : EReal))) : (x - y) * (x - y) = ⊤ := by
  induction x with
  | bot => rw [EReal.bot_sub]; rfl
  | top =>
    induction y with
    | bot => rfl
    | top => rfl
    | coe y => rw [EReal.top_sub_coe]; rfl
  | coe x =>
    induction y with
    | bot => rfl
    | top => rfl
    | coe y => exact absurd ⟨⟨x, rfl⟩, y, rfl⟩ h

/-- The distance of two finite points is real. -/
theorem distance_finite (q : ℝ) (hq : 0 ≤ q) {x y : Fin 3 → EReal} (hx : Finite x) (hy : Finite y) :
    ∃ r : ℝ, distance q x y = (r : EReal) := by
  choose a ha using hx
  choose b hb using hy
  refine ⟨Real.sqrt ((∑ k, (a k - b k) * (a k - b k)) + q), ?_⟩
  unfold distance
  simp only [ha, hb, ← EReal.coe_sub, ← EReal.coe_mul]
  rw [← coe_sum, ← EReal.coe_add, Ideal.sqrt_coe, if_neg]
  exact not_lt.mpr (add_nonneg (Finset.sum_nonneg fun k _ => mul_self_nonneg _) hq)

/-- The distance of two points of which one is not finite is `⊤`. -/
theorem distance_infinite (q : ℝ) {x y : Fin 3 → EReal} (h : ¬(Finite x ∧ Finite y)) : distance q x y = ⊤ := by
  have hk : ∃ k, ¬((∃ r : ℝ, x k = (r : EReal)) ∧ ∃ r : ℝ, y k = (r : EReal)) := by
    by_contra hall
    rw [not_exists] at hall
    exact h ⟨fun k => (not_not.mp (hall k)).1, fun k => (not_not.mp (hall k)).2⟩
  obtain ⟨k, hk⟩ := hk
  have hne : ∀ k, (x k - y k) * (x k - y k) ≠ ⊥ := fun k => by
    rcases sq_cases (x k) (y k) with ⟨r, -, hr⟩ | hr <;> rw [hr]
    exacts [EReal.coe_ne_bot r, bot_ne_top.symm]
  have hsum : ∑ k, (x k - y k) * (x k - y k) = ⊤ := by
    have hs := sq_top hk
    rw [Fin.sum_univ_three]
    have h0 := hne 0
    have h1 := hne 1
    have h2 := hne 2
    fin_cases k
    · simp only [Fin.zero_eta] at hs
      rw [hs, EReal.top_add_of_ne_bot h1, EReal.top_add_of_ne_bot h2]
    · simp only [Fin.mk_one] at hs
      rw [hs, EReal.add_top_of_ne_bot h0, EReal.top_add_of_ne_bot h2]
    · simp only [Fin.reduceFinMk] at hs
      rw [hs, EReal.add_top_of_ne_bot]
      exact fun hb => (EReal.add_eq_bot_iff.mp hb).elim h0 h1
  unfold distance
  rw [hsum, EReal.top_add_coe, Ideal.sqrt_top]

/-- The two transport costs of two clouds of points are equal, whatever the coordinates. -/
theorem cloud_eq (e w lw q : ℝ) (he : 0 < e) (hw : 0 < w) (hlw : Real.exp lw = w) (hq : 0 ≤ q) (n : ℕ)
    (x : ι → Fin 3 → EReal) (y : κ → Fin 3 → EReal) :
    kernelTotal e w n (fun i j => distance q (x i) (y j)) = referenceTotal e lw n fun i j => distance q (x i) (y j) :=
  total_eq e w lw he hw hlw n _ (fun i => Finite (x i)) (fun j => Finite (y j)) (fun _ _ hi hj => distance_finite q hq hi hj)
    fun _ _ h => distance_infinite q h

end Cert.Sinkhorn

end
-- ==== Proof.Consts.lean ====
/- The literals of the two programs as extended reals, and the bounds that the kernel's named literals stand for. -/
module

public import proofs.«01_k».proof.KernelIdeal
public import Idealize.ShloMosaic.PureOps.IdealRules
public import Mathlib.Analysis.SpecialFunctions.Log.Basic

@[expose] public section

noncomputable section

namespace Cert.Consts

open Idealize.ShloMosaic

/-- The temperature, `0.05` rounded to a float word. -/
def eps : ℝ := 13421773 / 268435456

/-- The marginal weight of a point, one over the number of points. -/
def w : ℝ := 1 / 2048

/-- The small number under the root, `1e-12` rounded to a float word. -/
def tiny : ℝ := 9223372 / 9223372036854775808

/-- The logarithm of the marginal weight. -/
def logW : ℝ := -Real.log 2048

theorem eps_pos : 0 < eps := by unfold eps; norm_num
theorem w_pos : 0 < w := by unfold w; norm_num
theorem tiny_nonneg : 0 ≤ tiny := by unfold tiny; norm_num
theorem exp_logW : Real.exp logW = w := by
  unfold logW w
  rw [Real.exp_neg, Real.exp_log (by norm_num)]; norm_num

/-- The word `0x00000000` is zero. -/
theorem word_zero : Ideal.ofBits .f32 0x00000000#32 = 0 := by
  simp [Ideal.ofBits, Ideal.ieee]

/-- The word `0x3D4CCCCD` is the temperature. -/
theorem word_eps : Ideal.ofBits .f32 0x3D4CCCCD#32 = (eps : EReal) := by
  unfold eps
  simp [Ideal.ofBits, Ideal.ieee, -EReal.coe_mul]; norm_num

/-- The word `0xBD4CCCCD` is minus the temperature. -/
theorem word_neg_eps : Ideal.ofBits .f32 0xBD4CCCCD#32 = ((-eps : ℝ) : EReal) := by
  unfold eps
  simp [Ideal.ofBits, Ideal.ieee, -EReal.coe_mul]; norm_num

/-- The word `0x3A000000` is the marginal weight. -/
theorem word_w : Ideal.ofBits .f32 0x3A000000#32 = (w : EReal) := by
  unfold w
  simp [Ideal.ofBits, Ideal.ieee, -EReal.coe_mul]; norm_num

/-- The word `0x2B8CBCCC` is the small number under the root. -/
theorem word_tiny : Ideal.ofBits .f32 0x2B8CBCCC#32 = (tiny : EReal) := by
  unfold tiny
  simp [Ideal.ofBits, Ideal.ieee, -EReal.coe_mul]; norm_num

/-- The word `0x45000000` is the number of points. -/
theorem word_n : Ideal.ofBits .f32 0x45000000#32 = ((2048 : ℝ) : EReal) := by
  simp [Ideal.ofBits, Ideal.ieee, -EReal.coe_mul]; norm_num

/-- The word `0x40000000` is two. -/
theorem word_two : Ideal.ofBits .f32 0x40000000#32 = ((2 : ℝ) : EReal) := by
  simp [Ideal.ofBits, Ideal.ieee, -EReal.coe_mul]; norm_num

/-- The word `0xFF800000` is minus infinity. -/
theorem word_bot : Ideal.ofBits .f32 0xFF800000#32 = ⊥ := by
  simp [Ideal.ofBits, Ideal.ieee]

/-- The floor of the half steps is minus infinity. -/
theorem floor_bot : Named.named (F := Ideal) Cert.KernelIdeal.κ "floor" (φ := .f32) 0x0554AD2E#32 = (⊥ : EReal) :=
  IdealRules.named_const.ideal_named_scalar _ _ _ _ rfl

/-- The cap of the half steps is plus infinity. -/
theorem cap_top : Named.named (F := Ideal) Cert.KernelIdeal.κ "cap" (φ := .f32) 0x7149F2CA#32 = (⊤ : EReal) :=
  IdealRules.named_const.ideal_named_scalar _ _ _ _ rfl

/-- The floor under the logarithm is minus infinity. -/
theorem log_floor_bot : Named.named (F := Ideal) Cert.KernelIdeal.κ "log_floor" (φ := .f32) 0x02081CEA#32 = (⊥ : EReal) :=
  IdealRules.named_const.ideal_named_scalar _ _ _ _ rfl

end Cert.Consts

end
-- ==== Proof.MaxRead.lean ====
/- The greatest entry along one axis, read at an index, for arrays of any size: a kernel's reduction along the last axis of
   a matrix, and the host's along the last or the middle axis of a stack of matrices. -/
module

public import proofs.«01_k».proof.Proof.Sinkhorn
public import proofs.«01_k».proof.Proof.Consts
public import Idealize.ShloMosaic.Lib.Pointwise

@[expose] public section

noncomputable section

namespace Cert.MaxRead

open Cert.Sinkhorn Cert.Consts Idealize.ShloMosaic

/-- A kernel's maximum along the columns of a matrix, at row `i`, is the greatest entry of that row. -/
theorem rowMax {n m : ℕ} (v : FVec Ideal ⟨2, ![n, m]⟩ .f32) (h : (⟨2, ![n, m]⟩ : Shape).Reduces [1] ⟨1, ![n]⟩)
    (hφ : FKind.Formats .f32) (hacc : 0xFF800000#32 = FKind.maximumf.neutral .f32 hφ) (i : Fin n) :
    multiReduction .maximumf [1] ⟨1, ![n]⟩ v 0xFF800000#32 h hφ hacc (ix1 i) = top fun j => v (ix2 i j) := by
  pointwise
  rw [word_bot]
  rfl

/-- The host's maximum along the last axis of a stack of matrices, at matrix `b` and row `i`. -/
theorem hostRowMax {p n m : ℕ} {u : Shape} (v : FVec Ideal ⟨3, ![p, n, m]⟩ .f32)
    (h : (⟨3, ![p, n, m]⟩ : Shape).ReducesTo [2] ⟨2, ![p, n]⟩) (hu : 0 < u.numel) (b : Fin p) (i : Fin n) :
    Host.reduce FloatOps.maximumf v (constant (F := Ideal) u .f32 0xFF800000#32) h hu (ix2 b i)
      = top fun j => v (ix3 b i j) := by
  pointwise
  rw [word_bot]
  rfl

/-- The host's maximum along the middle axis of a stack of matrices, at matrix `b` and column `j`. -/
theorem hostColMax {p n m : ℕ} {u : Shape} (v : FVec Ideal ⟨3, ![p, n, m]⟩ .f32)
    (h : (⟨3, ![p, n, m]⟩ : Shape).ReducesTo [1] ⟨2, ![p, m]⟩) (hu : 0 < u.numel) (b : Fin p) (j : Fin m) :
    Host.reduce FloatOps.maximumf v (constant (F := Ideal) u .f32 0xFF800000#32) h hu (ix2 b j)
      = top fun i => v (ix3 b i j) := by
  pointwise
  rw [word_bot]
  rfl

end Cert.MaxRead

end
-- ==== Proof.KernelBlock.lean ====
/- What the kernel's body computes on one pair of clouds: the row-shifted weights of the pairwise costs, one trip of the
   scaling iteration, and the transport cost from the last scalings. -/
module

public import proofs.«01_k».proof.Proof.MaxRead
public import proofs.«01_k».proof.Proof.Gen.KernelIdeal.Skeleton
public import Idealize.ShloMosaic.Lib.Pointwise

@[expose] public section

set_option maxRecDepth 16384

noncomputable section

namespace Cert.KernelBlock

open Cert.KernelIdeal Cert.KernelIdeal.Gen Cert.Sinkhorn Cert.Consts Idealize.ShloMosaic

/-- The costs of the block's two clouds: the first holds a point per row, the second a point per column. -/
def cost (x : Vec Ideal S1x2048x3 .f32) (y : Vec Ideal S1x3x2048 .f32) (i j : Fin 2048) : EReal :=
  distance (tiny : EReal) (fun k => x (ix3 0 i k)) (fun k => y (ix3 0 k j))

/-- A matrix of the body as a function of row and column. -/
def entries (K : Vec Ideal S2048x2048 .f32) (i j : Fin 2048) : EReal := K (ix2 i j)

/-- A row vector of the body as a function of the column. -/
def line (v : FVec Ideal S1x2048 .f32) (j : Fin 2048) : EReal := v (ix2 0 j)

/-- The exponents: minus the cost over the temperature. -/
theorem negCost_at (x : Vec Ideal S1x2048x3 .f32) (y : Vec Ideal S1x3x2048 .f32) (i j : Fin 2048) :
    k0_pay2 x y (ix2 i j) = negCost eps (cost x y) i j := by
  pointwise [k0_pay2]
  rw [word_eps, word_tiny]
  unfold negCost cost distance
  rw [Fin.sum_univ_three]
  simp only [zero_sub, zero_add]

/-- A column vector subtracted from zero, at row `i`. -/
theorem zero_sub_at (M : FVec Ideal S2048 .f32) (i : Fin 2048) :
    subf (broadcast S2048x1 (Scalar.ofBits (F := Ideal) .f32 0x00000000#32)) (shapeCast S2048x1 M shapeCasts_S2048_S2048x1)
      (ix2 i 0) = -(M (ix1 i)) := by
  pointwise
  rw [zero_sub]

/-- The shift of row `i`. -/
theorem shift_at (x : Vec Ideal S1x2048x3 .f32) (y : Vec Ideal S1x3x2048 .f32) (i : Fin 2048) :
    k0_pay3 x y (ix2 i 0) = shift eps (cost x y) i :=
  (zero_sub_at _ i).trans (congrArg (fun z : EReal => -z)
    ((MaxRead.rowMax (k0_pay2 x y) reduces_S2048x2048_S2048 (.inl rfl) rfl i).trans
      (congrArg top (funext fun j => negCost_at x y i j))))

/-- The weights that the body stores. -/
theorem weight_at (x : Vec Ideal S1x2048x3 .f32) (y : Vec Ideal S1x3x2048 .f32) :
    entries (k0_pay4 x y) = weight eps (cost x y) := by
  funext i j
  unfold entries
  pointwise [k0_pay4]
  rw [negCost_at, shift_at]
  unfold weight
  with_reducible rfl

/-- The constant scaling that the loop starts from. -/
theorem start_at : line (k0_pay5 (F := Ideal) (Scalar.ofBits .f32 0x3A000000#32)) = fun _ => (w : EReal) := by
  funext j
  unfold line
  pointwise [k0_pay5]
  exact word_w

/-- One trip of the loop is one trip of the scaling iteration. -/
theorem trip_at (v : FVec Ideal S1x2048 .f32) (K : Vec Ideal S2048x2048 .f32) :
    line (k0_pay6 v K) = scaleTrip w (entries K) (line v) := by
  funext j
  unfold line
  pointwise [k0_pay6]
  simp only [floor_bot, cap_top, word_w, max_bot_right, min_top_right]
  unfold scaleTrip colScale rowScale entries
  with_reducible rfl

/-- The stored block holds, in every lane, the transport cost after one more row and one more column half step. -/
theorem total_at (al : FVec Ideal S2048x1 .f32) (v : FVec Ideal S1x2048 .f32) (K : Vec Ideal S2048x2048 .f32)
    (o p : Fin 1) (q : Fin 128) :
    k0_pay1 (k0_pay7 al v K K) (ix3 o p q)
      = scaledTotal eps (entries K) (fun i => al (ix2 i 0)) (rowScale w (entries K) (line v))
          (scaleTrip w (entries K) (line v)) := by
  pointwise [k0_pay1, k0_pay7]
  simp only [floor_bot, cap_top, log_floor_bot, word_w, word_eps, max_bot_right, min_top_right]
  unfold scaledTotal scaleTrip colScale rowScale entries line
  simp only [Finset.univ_unique, Finset.sum_singleton]

end Cert.KernelBlock

end
-- ==== Proof.BodyRun.lean ====
/- What the kernel's body leaves in its output block: the loads, the loop's trips and the last store read as values. -/
module

public import proofs.«01_k».proof.Proof.KernelBlock
public import proofs.«01_k».proof.Proof.Gen.KernelIdeal.Frame

@[expose] public section

set_option maxRecDepth 16384

noncomputable section

namespace Cert.BodyRun

open Cert.KernelIdeal Cert.KernelIdeal.Gen Cert.Sinkhorn Cert.Consts Idealize.ShloMosaic Idealize.ShloMosaic.TcCoe
open Idealize.SL Idealize.SL.Sem

/-- A block read from its origin, at rank two. -/
theorem origin2 : (![0, 0] : Fin 2 → Nat) = fun _ => 0 := funext fun a => by fin_cases a <;> rfl

/-- A block read from its origin, at rank three. -/
theorem origin3 : (![0, 0, 0] : Fin 3 → Nat) = fun _ => 0 := funext fun a => by fin_cases a <;> rfl

section
variable {F : FTy → Type} [FloatOps F] [Named F]
variable (c : Dev nD) (i : grid0.Coords) (a1 : Memref sig .tc .vmem S1x2048x3 .f32) (h1 : a1.IsWhole)
  (a2 : Memref sig .tc .vmem S1x3x2048 .f32) (h2 : a2.IsWhole) (a3 : Memref sig .tc .vmem S1x1x128 .f32)
  (h3 : a3.IsWhole) (a4 : Memref sig .tc .vmem S2048x2048 .f32) (h4 : a4.IsWhole)

/-- One trip yields the body's half steps of the weights that the scratch buffer holds. -/
theorem trip_eq (v36 : FVec F S2048x1 .f32) (cst : F .f32) (X : BufTy.Contents (Elt F) a4.view.ty)
    (k : Fin k0_t1_loop.trips) (acc : FVec F S1x2048 .f32) :
    tripR_k0_t1 Variants.none c none i a1 h1 a2 h2 a3 h3 a4 h4 v36 cst X k acc = k0_pay6 acc (a4.view.read (Elt F) X) := by
  unfold tripR_k0_t1 trip_k0_t1
  dsimp only
  simp only [View.readAt_eq_ld, View.ld_unit_zero (S := S2048x2048) origin2]

/-- The carried row after `n` trips, from the constant row. -/
def rows (init : FVec F S1x2048 .f32) (K : Vec F S2048x2048 .f32) : ℕ → FVec F S1x2048 .f32
  | 0 => init
  | n + 1 => k0_pay6 (rows init K n) K

/-- The carried row before trip `n` of the loop. -/
theorem state_eq (v36 : FVec F S2048x1 .f32) (cst : F .f32) (X : BufTy.Contents (Elt F) a4.view.ty)
    (init : FVec F S1x2048 .f32) : ∀ n, n ≤ 199 →
    st_k0_t1 Variants.none c none i a1 h1 a2 h2 a3 h3 a4 h4 v36 cst X init n = rows init (a4.view.read (Elt F) X) n
  | 0, _ => rfl
  | n + 1, h => by
    have hn : n < k0_t1_loop.trips := lt_of_lt_of_le h (by decide)
    exact (st_k0_t1_succ Variants.none c none i a1 h1 a2 h2 a3 h3 a4 h4 v36 cst X init ⟨n, hn⟩).trans
      ((trip_eq c i a1 h1 a2 h2 a3 h3 a4 h4 v36 cst X ⟨n, hn⟩ _).trans
        (congrArg (fun r => k0_pay6 r (a4.view.read (Elt F) X)) (state_eq v36 cst X init n (Nat.le_of_succ_le h))))

/-- The loop makes 199 trips. -/
theorem trips_eq : Scf.trips k0_t1_loop.lb k0_t1_loop.ub k0_t1_loop.st = 199 := by decide

/-- The block that the body leaves: the transport cost from the row carried out of the loop. -/
theorem out_eq (x : Vec F S1x2048x3 .f32) (y : Vec F S1x3x2048 .f32) :
    out0_A_2 c i a1 h1 a2 h2 a3 h3 a4 h4 x y
      = k0_pay1 (k0_pay7 (k0_pay3 x y) (rows (k0_pay5 (Scalar.ofBits .f32 0x3A000000#32)) (k0_pay4 x y) 199)
          (k0_pay4 x y) (k0_pay4 x y)) := by
  unfold out0_A_2
  rw [View.read_writes_eq_canon _ _ _ (cover0_A_2 c i a1 h1 a2 h2 a3 h3 a4 h4 x y)]
  unfold kernelRun0_A
  dsimp only
  sl_unfold_words
  rw [View.canon_unit_zero origin3, trips_eq, state_eq _ _ _ _ _ _ _ _ _ _ _ _ _ _ _ le_rfl]
  rw [View.read_writes_eq_canon _ _ _ (fun j => ?_), View.canon_unit_zero (S := S2048x2048) origin2]
  · simp only [View.readCov_unit_zero (S := S2048x2048) _ origin2, View.readAt_eq_ld, h1.read_unread, h2.read_unread, View.ld_unit_zero (S := S1x2048x3) origin3,
      View.ld_unit_zero (S := S1x3x2048) origin3]
  · exact View.cover_of_tiledL _ S2048x2048.size (by sl_kernel_rfl) j
end

/-- The scaling that the loop carries, from the constant one. -/
theorem rows_at (x : Vec Ideal S1x2048x3 .f32) (y : Vec Ideal S1x3x2048 .f32) : ∀ n,
    KernelBlock.line (rows (k0_pay5 (F := Ideal) (Scalar.ofBits .f32 0x3A000000#32)) (k0_pay4 x y) n)
      = (scaleTrip w (weight eps (KernelBlock.cost x y)))^[n] fun _ => (w : EReal)
  | 0 => KernelBlock.start_at
  | n + 1 => by
    rw [Function.iterate_succ_apply', ← rows_at x y n, ← KernelBlock.weight_at]
    exact KernelBlock.trip_at _ _

/-- Over the extended reals every lane of the block is the scaled transport cost of the two clouds. -/
theorem out_at (c : Dev nD) (i : grid0.Coords) (a1 : Memref sig .tc .vmem S1x2048x3 .f32) (h1 : a1.IsWhole)
    (a2 : Memref sig .tc .vmem S1x3x2048 .f32) (h2 : a2.IsWhole) (a3 : Memref sig .tc .vmem S1x1x128 .f32)
    (h3 : a3.IsWhole) (a4 : Memref sig .tc .vmem S2048x2048 .f32) (h4 : a4.IsWhole)
    (x : Vec Ideal S1x2048x3 .f32) (y : Vec Ideal S1x3x2048 .f32) (o p : Fin 1) (q : Fin 128) :
    out0_A_2 c i a1 h1 a2 h2 a3 h3 a4 h4 x y (ix3 o p q) = kernelTotal eps w 199 (KernelBlock.cost x y) := by
  rw [out_eq, KernelBlock.total_at, rows_at, KernelBlock.weight_at,
    show (fun i => k0_pay3 x y (ix2 i 0)) = shift eps (KernelBlock.cost x y) from
      funext fun i => KernelBlock.shift_at x y i]
  unfold kernelTotal
  with_reducible rfl

end Cert.BodyRun

end
-- ==== Proof.KernelArray.lean ====
/- The kernel's run: grid point `b` writes the scaled transport cost of the `b`-th pair of clouds to every lane of row
   `b` of its output array, and the host adds the rows' first lanes. -/
module

public import proofs.«01_k».proof.Proof.BodyRun
public import Idealize.ShloMosaic.Lib.Claim

@[expose] public section

set_option maxRecDepth 16384

noncomputable section

namespace Cert.KernelArray

open Cert.KernelIdeal Cert.KernelIdeal.Gen Cert.Sinkhorn Cert.Consts Idealize.ShloMosaic Idealize.ShloMosaic.TcCoe
open Idealize.SL Idealize.SL.Sem

variable (m : (ℓ : Loc nD τ sig) → Buf (Elt Ideal) ℓ) (ρ : Dev nD → PrngReg)

/-- Coordinate `k` of point `i` of the `b`-th cloud of a batch. -/
def point (a : FVec Ideal S16x2048x3 .f32) (b : Fin 16) (i : Fin 2048) (k : Fin 3) : EReal := a (ix3 b i k)

/-- The costs of the `b`-th pair of clouds. -/
def pairCost (x y : FVec Ideal S16x2048x3 .f32) (b : Fin 16) (i j : Fin 2048) : EReal :=
  distance (tiny : EReal) (point x b i) (point y b j)

/-- The kernel's first argument on a device. -/
def argX (c : Dev nD) : FVec Ideal S16x2048x3 .f32 := m (c.tc.loc main_arg0)

/-- The kernel's second argument on a device. -/
def argY (c : Dev nD) : FVec Ideal S16x2048x3 .f32 := m (c.tc.loc main_arg1)

/-- The array of scaled transport costs: row `b` holds that of the `b`-th pair in every lane. -/
def costs (c : Dev nD) : Buf (Elt Ideal) ((c : Thread nD τ).loc main_v1) :=
  fun i => kernelTotal eps w 199 (pairCost (argX m c) (argY m c) (i 0))

/-- The first window's block is the point's row of the first argument. -/
theorem index0 : ∀ t : Fin cfg0.N, win0_0.index t 0 = t.val ∧ win0_0.index t 1 = 0 ∧ win0_0.index t 2 = 0 := by
  decide +kernel

/-- The second window's block is the point's row of the transposed second argument. -/
theorem index1 : ∀ t : Fin cfg0.N, win0_1.index t 0 = t.val ∧ win0_1.index t 1 = 0 ∧ win0_1.index t 2 = 0 := by
  decide +kernel

/-- The output window's block is the point's row of the output. -/
theorem index2 : ∀ t : Fin cfg0.N, win0_2.index t 0 = t.val ∧ win0_2.index t 1 = 0 ∧ win0_2.index t 2 = 0 := by
  decide +kernel

/-- A grid point as a pair's number. -/
def pair (t : Fin cfg0.N) : Fin 16 := ⟨t.val, lt_of_lt_of_eq t.isLt N_0⟩

/-- The first input block at a grid point. -/
theorem block0 (c : Dev nD) (t : Fin cfg0.N) (i : Fin 2048) (k : Fin 3) :
    (iblk m c 0 t : Vec Ideal S1x2048x3 .f32) (ix3 0 i k) = point (argX m c) (pair t) i k := by
  unfold iblk point argX
  rw [View.read_apply]
  refine (congrFun (V_main_arg0 m c) _).trans ?_
  congr 1
  funext a
  apply Fin.ext
  match a with
  | ⟨0, _⟩ => show win0_0.index t 0 * 1 + 1 * 0 = t.val; rw [(index0 t).1]; omega
  | ⟨1, _⟩ => show win0_0.index t 1 * 2048 + 1 * i.val = i.val; rw [(index0 t).2.1]; omega
  | ⟨2, _⟩ => show win0_0.index t 2 * 3 + 1 * k.val = k.val; rw [(index0 t).2.2]; omega

/-- The transposed second argument, as the region finds it. -/
theorem transposed (c : Dev nD) : V m c main_v0
    = transpose S16x3x2048 [0, 2, 1] (argY m c) transposes_S16x2048x3_S16x3x2048_0_2_1 := by
  show StableHlo.after hostOps0 (fun b => m (c, b)) (Proc.devRef .tc main_v0) = _
  after_results
  rfl

/-- The second input block at a grid point. -/
theorem block1 (c : Dev nD) (t : Fin cfg0.N) (k : Fin 3) (j : Fin 2048) :
    (iblk m c 1 t : Vec Ideal S1x3x2048 .f32) (ix3 0 k j) = point (argY m c) (pair t) j k := by
  have read : (iblk m c 1 t : Vec Ideal S1x3x2048 .f32) (ix3 0 k j)
      = transpose S16x3x2048 [0, 2, 1] (argY m c) transposes_S16x2048x3_S16x3x2048_0_2_1 (ix3 (pair t) k j) := by
    unfold iblk
    rw [View.read_apply]
    refine (congrFun (transposed m c) _).trans ?_
    congr 1
    funext a
    apply Fin.ext
    match a with
    | ⟨0, _⟩ => show win0_1.index t 0 * 1 + 1 * 0 = t.val; rw [(index1 t).1]; omega
    | ⟨1, _⟩ => show win0_1.index t 1 * 3 + 1 * k.val = k.val; rw [(index1 t).2.1]; omega
    | ⟨2, _⟩ => show win0_1.index t 2 * 2048 + 1 * j.val = j.val; rw [(index1 t).2.2]; omega
  rw [read]
  pointwise
  unfold point
  with_reducible rfl

/-- The costs of the two blocks at a grid point are those of the point's pair. -/
theorem cost_block (c : Dev nD) (t : Fin cfg0.N) :
    KernelBlock.cost (iblk m c 0 t) (iblk m c 1 t) = pairCost (argX m c) (argY m c) (pair t) := by
  funext i j
  unfold KernelBlock.cost pairCost
  exact congrArg₂ (distance (tiny : EReal)) (funext fun k => block0 m c t i k) (funext fun k => block1 m c t k j)

/-- The block that a grid point leaves: its pair's scaled transport cost in every lane. -/
theorem block2 (c : Dev nD) (t : Fin cfg0.N) :
    outsAt0 m c t = fun _ => kernelTotal eps w 199 (pairCost (argX m c) (argY m c) (pair t)) := by
  funext j
  obtain ⟨o, p, q, rfl⟩ : ∃ (o p : Fin 1) (q : Fin 128), j = ix3 o p q := ⟨j 0, j 1, j 2, eq_ix3 j⟩
  unfold outsAt0
  rw [BodyRun.out_at, cost_block]

/-- What a grid point writes back is its row of the array of costs. -/
theorem flushed_eq (c : Dev nD) (t : Fin cfg0.N) (_ : (cfg0.win 2).flush t = true) :
    (dats m 0 c).flushed 2 t = ((cfg0.win 2).blk t).view.read (Elt Ideal) (costs m c) := by
  show (cfg0.win 2).cut (grid0.coords t) ((dats m 0 c).after 2 t) = _
  rw [after0_2, block2]
  funext j
  rw [View.read_apply]
  unfold costs
  refine congrArg (fun b => kernelTotal eps w 199 (pairCost (argX m c) (argY m c) b)) (Fin.ext ?_)
  show t.val = win0_2.index t 0 * 1 + 1 * (j 0).val
  have hj : (j 0).val < 1 := (j 0).isLt
  rw [(index2 t).1]
  omega

/-- The output array ends holding the costs. -/
theorem final_costs (c : Dev nD) : (dats m 0 c).arrAt 2 cfg0.N = costs m c :=
  (dats m 0 c).arrAt_eq_of_cover 2 (costs m c) (flushed_eq m c) fun i =>
    ⟨⟨(i 0).val, lt_of_lt_of_eq (i 0).isLt N_0.symm⟩, flush0_2 _, by
      show i ∈ ((View.whole main_v1).slice (win0_2.rect ⟨(i 0).val, lt_of_lt_of_eq (i 0).isLt N_0.symm⟩)).set
      rw [View.set_slice_whole, Rect.mem_set_unit]
      intro a
      have h1 : (i 1 : Nat) < 1 := (i 1).isLt
      have h2 : (i 2 : Nat) < 128 := (i 2).isLt
      obtain ⟨e0, e1, e2⟩ := index2 ⟨(i 0).val, lt_of_lt_of_eq (i 0).isLt N_0.symm⟩
      match a with
      | ⟨0, _⟩ =>
        show win0_2.index _ 0 * 1 ≤ (i 0 : Nat) ∧ (i 0 : Nat) < win0_2.index _ 0 * 1 + 1
        rw [e0]; dsimp only; omega
      | ⟨1, _⟩ =>
        show win0_2.index _ 1 * 1 ≤ (i 1 : Nat) ∧ (i 1 : Nat) < win0_2.index _ 1 * 1 + 1
        rw [e1]; omega
      | ⟨2, _⟩ =>
        show win0_2.index _ 2 * 128 ≤ (i 2 : Nat) ∧ (i 2 : Nat) < win0_2.index _ 2 * 128 + 128
        rw [e2]; omega⟩

/-- The kernel's result: the sum of the pairs' scaled transport costs. -/
def total (c : Dev nD) : EReal := ∑ b : Fin 16, kernelTotal eps w 199 (pairCost (argX m c) (argY m c) b)

/-- The host's last operations add the first lanes of the output's rows. -/
theorem sum_lanes (v : FVec Ideal S16x1x128 .f32) (i : S_.Idx) :
    Host.reduceAdd (shapeCast S16 (extractStridedSlice S16x1x1 ![0, 0, 0] v slices_S16x1x128_S16x1x1_0_0_0)
      shapeCasts_S16x1x1_S16) (constant S_ .f32 0x00000000#32) reducesTo_S16_S_d0 h_S_ i
      = ∑ b : Fin 16, v (ix3 b 0 0) := by
  pointwise

/-- The result buffer after the run. -/
theorem result_eq (c : Dev nD) :
    Pipeline.afterTail₀ cfgs (dats m) 0 (V0 m) [hostOps1] c main_v4 = fun _ => total m c := by
  unfold Pipeline.afterTail₀
  show StableHlo.after hostOps1 _ (Proc.devRef .tc main_v4) = _
  after_results
  erw [Pipeline.withArrays_arr spec0 (by decide) c _ _ 2]
  funext i
  refine (sum_lanes _ i).trans (Finset.sum_congr rfl fun b _ => ?_)
  exact (congrFun (final_costs m c) (ix3 b 0 0)).trans rfl

/-- The kernel's run: it leaves the sum of the scaled transport costs, and its arguments as they were. -/
theorem run : θ_run defs (onTc (τ := τ) (main (F := Ideal))) ⟨m, fun _ => 0, ρ⟩ fun r => ∀ c : Dev nD,
    r.2.mem (c.tc.loc main_v4) = (fun _ => total m c)
    ∧ r.2.mem (c.tc.loc main_arg0) = m (c.tc.loc main_arg0)
    ∧ r.2.mem (c.tc.loc main_arg1) = m (c.tc.loc main_arg1) :=
  (θ_run defs _ _).mono (fun _ h c => ⟨((h.1 c).2 main_v4 (Pipeline.mem_restRefs_of main_v4 (by decide) (by decide))).trans
    (result_eq m c), h.2 c⟩) (θ_run_and (run_main m ρ) (unchanged m ρ))

end Cert.KernelArray

end
-- ==== Proof.RefStep.lean ====
/- The reference's arrays read at an index: the exponents of a half step, a half step's potential from them, the costs and
   the start of the loop, and the sum after it. -/
module

public import proofs.«01_k».proof.Proof.MaxRead
public import proofs.«01_k».proof.Proof.Gen.ReferenceIdeal.Run
public import Idealize.ShloMosaic.Lib.Pointwise

@[expose] public section

set_option maxRecDepth 16384

noncomputable section

namespace Cert.RefStep

open Cert.ReferenceIdeal Cert.ReferenceIdeal.Gen Cert.ReferenceIdeal.Value Cert.Sinkhorn Cert.Consts
open Idealize.ShloMosaic Idealize.ShloMosaic.TcCoe

/-- Matrix `b` of a stack of matrices. -/
def slab (Z : FVec Ideal S16x2048x2048 .f32) (b : Fin 16) (i j : Fin 2048) : EReal := Z (ix3 b i j)

/-- Row `b` of a matrix. -/
def strip (g : FVec Ideal S16x2048 .f32) (b : Fin 16) (j : Fin 2048) : EReal := g (ix2 b j)

/-- The one entry of a scalar. -/
def entry (s : FVec Ideal S_ .f32) : EReal := s ix0

/-- The exponents of a row half step. -/
theorem rowExponent_at (lw : FVec Ideal S_ .f32) (g : FVec Ideal S16x2048 .f32) (N : FVec Ideal S16x2048x2048 .f32)
    (b : Fin 16) (i j : Fin 2048) :
    addf (broadcastInDim S16x2048x2048 ![0, 1, 2] bcast_S16x1x2048_S16x2048x2048_0_1_2
      (addf (broadcastInDim S16x1x2048 ![] bcast_S_S16x1x2048 lw)
        (Host.divf (broadcastInDim S16x1x2048 ![0, 2] bcast_S16x2048_S16x1x2048_0_2 g)
          (broadcastInDim S16x1x2048 ![] bcast_S_S16x1x2048 (constant S_ .f32 0x3D4CCCCD#32))))) N (ix3 b i j)
      = entry lw + Ideal.div (strip g b j) (eps : EReal) + slab N b i j := by
  pointwise
  rw [word_eps]
  unfold entry strip slab
  with_reducible rfl

/-- The exponents of a column half step. -/
theorem colExponent_at (lw : FVec Ideal S_ .f32) (f : FVec Ideal S16x2048 .f32) (N : FVec Ideal S16x2048x2048 .f32)
    (b : Fin 16) (i j : Fin 2048) :
    addf (broadcastInDim S16x2048x2048 ![0, 1, 2] bcast_S16x2048x1_S16x2048x2048_0_1_2
      (addf (broadcastInDim S16x2048x1 ![] bcast_S_S16x2048x1 lw)
        (Host.divf (broadcastInDim S16x2048x1 ![0, 1] bcast_S16x2048_S16x2048x1_0_1 f)
          (broadcastInDim S16x2048x1 ![] bcast_S_S16x2048x1 (constant S_ .f32 0x3D4CCCCD#32))))) N (ix3 b i j)
      = entry lw + Ideal.div (strip f b i) (eps : EReal) + slab N b i j := by
  pointwise
  rw [word_eps]
  unfold entry strip slab
  with_reducible rfl

/-- A row half step from its exponents `Z` and any row shifts `M`. -/
theorem rowHalf_at (Z : FVec Ideal S16x2048x2048 .f32) (M : FVec Ideal S16x2048 .f32) (b : Fin 16) (i : Fin 2048) :
    mulf (broadcastInDim S16x2048 ![] bcast_S_S16x2048 (constant S_ .f32 0xBD4CCCCD#32))
      (addf (Host.log (Host.reduceAdd (Host.exp (subf Z (broadcastInDim S16x2048x2048 ![0, 1, 2]
          bcast_S16x2048x1_S16x2048x2048_0_1_2 (broadcastInDim S16x2048x1 ![0, 1] bcast_S16x2048_S16x2048x1_0_1 M))))
          (constant S_ .f32 0x00000000#32) reducesTo_S16x2048x2048_S16x2048_d2 h_S_))
        (shapeCast S16x2048 (broadcastInDim S16x2048x1 ![0, 1] bcast_S16x2048_S16x2048x1_0_1 M)
          shapeCasts_S16x2048x1_S16x2048)) (ix2 b i)
      = ((-eps : ℝ) : EReal) * (Ideal.log (∑ j, Ideal.exp (slab Z b i j - M (ix2 b i))) + M (ix2 b i)) := by
  pointwise
  rw [word_neg_eps]
  unfold slab
  with_reducible rfl

/-- A column half step from its exponents `Z` and any column shifts `M`. -/
theorem colHalf_at (Z : FVec Ideal S16x2048x2048 .f32) (M : FVec Ideal S16x2048 .f32) (b : Fin 16) (j : Fin 2048) :
    mulf (broadcastInDim S16x2048 ![] bcast_S_S16x2048 (constant S_ .f32 0xBD4CCCCD#32))
      (addf (Host.log (Host.reduceAdd (Host.exp (subf Z (broadcastInDim S16x2048x2048 ![0, 1, 2]
          bcast_S16x1x2048_S16x2048x2048_0_1_2 (broadcastInDim S16x1x2048 ![0, 2] bcast_S16x2048_S16x1x2048_0_2 M))))
          (constant S_ .f32 0x00000000#32) reducesTo_S16x2048x2048_S16x2048_d1 h_S_))
        (shapeCast S16x2048 (broadcastInDim S16x1x2048 ![0, 2] bcast_S16x2048_S16x1x2048_0_2 M)
          shapeCasts_S16x1x2048_S16x2048)) (ix2 b j)
      = ((-eps : ℝ) : EReal) * (Ideal.log (∑ i, Ideal.exp (slab Z b i j - M (ix2 b j))) + M (ix2 b j)) := by
  pointwise
  rw [word_neg_eps]
  unfold slab
  with_reducible rfl

/-- The row potential that one trip writes. -/
theorem rowStep (V : Valuation τ sig (Elt Ideal)) (b : Fin 16) :
    strip (step_main_v19_3 V) b = rowPot eps (entry (V (Proc.devRef .tc main_v19_0)))
      (slab (V (Proc.devRef .tc main_v19_1)) b) (strip (V (Proc.devRef .tc main_v19_4)) b) := by
  funext i
  have shiftAt : Host.reduce FloatOps.maximumf (res_main_while0b_v41 V) (constant (F := Ideal) S_ .f32 0xFF800000#32)
      reducesTo_S16x2048x2048_S16x2048_d2 h_S_ (ix2 b i) = top (slab (res_main_while0b_v41 V) b i) :=
    MaxRead.hostRowMax (res_main_while0b_v41 V) _ _ b i
  have exponents : slab (res_main_while0b_v41 V) b i = fun j => entry (V (Proc.devRef .tc main_v19_0))
      + Ideal.div (strip (V (Proc.devRef .tc main_v19_4)) b j) (eps : EReal) + slab (V (Proc.devRef .tc main_v19_1)) b i j :=
    funext fun j => rowExponent_at _ _ _ b i j
  refine (rowHalf_at (res_main_while0b_v41 V) _ b i).trans ?_
  rw [shiftAt, exponents]
  unfold rowPot logSumExp
  with_reducible rfl

/-- The column potential that one trip writes. -/
theorem colStep (V : Valuation τ sig (Elt Ideal)) (b : Fin 16) :
    strip (step_main_v19_4 V) b = potTrip eps (entry (V (Proc.devRef .tc main_v19_0)))
      (slab (V (Proc.devRef .tc main_v19_1)) b) (strip (V (Proc.devRef .tc main_v19_4)) b) := by
  funext j
  have shiftAt : Host.reduce FloatOps.maximumf (res_main_while0b_v59 V) (constant (F := Ideal) S_ .f32 0xFF800000#32)
      reducesTo_S16x2048x2048_S16x2048_d1 h_S_ (ix2 b j) = top fun i => slab (res_main_while0b_v59 V) b i j :=
    MaxRead.hostColMax (res_main_while0b_v59 V) _ _ b j
  have exponents : ∀ i, slab (res_main_while0b_v59 V) b i j = entry (V (Proc.devRef .tc main_v19_0))
      + Ideal.div (strip (step_main_v19_3 V) b i) (eps : EReal) + slab (V (Proc.devRef .tc main_v19_1)) b i j :=
    fun i => colExponent_at _ _ _ b i j
  refine (colHalf_at (res_main_while0b_v59 V) _ b j).trans ?_
  rw [shiftAt]
  simp only [exponents]
  rw [rowStep]
  unfold potTrip colPot logSumExp
  with_reducible rfl

end Cert.RefStep

end
-- ==== Proof.RefRun.lean ====
/- The reference's run, read from its two parts: the loop's last contents, and the stretch of operations after it.
   A buffer that no operation of the loop writes holds after the loop what it held before it, and the arguments hold at
   the end what they held at the start. -/
module

public import proofs.«01_k».proof.Proof.Gen.ReferenceIdeal.Run

@[expose] public section

noncomputable section

namespace Cert.RefRun

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- A buffer that neither the loop's condition nor its body writes holds, before every trip, what it held on entry. -/
theorem untouched (m : (ℓ : Loc nD τ sig) → Buf (Elt F) ℓ) (c : Dev nD) (r : Ref sig .tc) (hc : r ∉ condOps_W)
    (hb : r ∉ while0Ops0_W) :
    ∀ k, atK m k c (Proc.devRef .tc r) = entryContents preI m c (Proc.devRef .tc r)
  | 0 => rfl
  | k + 1 => by
    show after while0Ops0 (after condOps (atK m k c)) (Proc.devRef .tc r) = _
    rw [after_of_writes_sub while0Ops0 _ while0Ops0_writes hb, after_of_writes_sub condOps _ condOps_writes hc]
    exact untouched m c r hc hb k

/-- The references written by the operations after the loop. -/
abbrev tailRefs : List (Ref sig .tc) :=
  [main_cst_5, main_v20, main_v21, main_v22, main_v23, main_v24, main_v25, main_cst_6, main_v26, main_v27, main_v28,
    main_v29, main_v30, main_v31, main_v32, main_cst_7, main_v33, main_cst_8, main_v34]

/-- The operations after the loop write the references of `tailRefs` only. -/
theorem tail_writes : (hostOps0_1 : List (HloOp τ sig (Elt F))).Forall
    fun op => op.writes ⊆ (tailRefs.map (Proc.devRef (τ := τ) .tc)).toFinset :=
  StableHlo.forall_writes_sub_of_map rfl

/-- A buffer that no operation of the program writes holds at the end what it held at the start. -/
theorem kept (m : (ℓ : Loc nD τ sig) → Buf (Elt F) ℓ) (c : Dev nD) (r : Ref sig .tc) (hc : r ∉ condOps_W)
    (hb : r ∉ while0Ops0_W) (ht : r ∉ tailRefs) (hp : r ∉ hostOps0_W) :
    finalContents condOps preI bodyI postI 200 m c (Proc.devRef .tc r) = m ((c.tc : Thread nD τ).loc r) := by
  show after hostOps0_1 (after condOps (atK m 200 c)) (Proc.devRef .tc r) = _
  rw [after_of_writes_sub hostOps0_1 _ tail_writes ht, after_of_writes_sub condOps _ condOps_writes hc,
    untouched m c r hc hb]
  exact after_of_writes_sub hostOps0 _ hostOps0_writes hp

end Cert.RefRun

end
-- ==== Proof.RefValue.lean ====
/- The reference's run: the costs and the start of the loop, the potentials after it, and the sum of the transport costs. -/
module

public import proofs.«01_k».proof.Proof.RefStep
public import proofs.«01_k».proof.Proof.RefRun

@[expose] public section

set_option maxRecDepth 16384

noncomputable section

namespace Cert.RefValue

open Cert.ReferenceIdeal Cert.ReferenceIdeal.Gen Cert.ReferenceIdeal.Value Cert.Sinkhorn Cert.Consts Cert.RefStep
open Idealize.ShloMosaic Idealize.ShloMosaic.TcCoe Idealize.ShloMosaic.StableHlo
open Idealize.SL.Sem

variable (m : (ℓ : Loc nD τ sig) → Buf (Elt Ideal) ℓ) (ρ : Dev nD → PrngReg)

/-- The costs of the `b`-th pair of clouds. -/
def pairCost (x y : FVec Ideal S16x2048x3 .f32) (b : Fin 16) (i j : Fin 2048) : EReal :=
  distance (tiny : EReal) (fun k => x (ix3 b i k)) (fun k => y (ix3 b j k))

/-- The reference's first argument on a device. -/
def argX (c : Dev nD) : FVec Ideal S16x2048x3 .f32 := m (c.tc.loc main_arg0)

/-- The reference's second argument on a device. -/
def argY (c : Dev nD) : FVec Ideal S16x2048x3 .f32 := m (c.tc.loc main_arg1)

/-- The buffers before the loop. -/
abbrev start (c : Dev nD) : Valuation τ sig (Elt Ideal) := entryContents preI m c

/-- The costs before the loop. -/
theorem start_cost (c : Dev nD) (b : Fin 16) :
    slab (start m c (Proc.devRef .tc main_v9)) b = pairCost (argX m c) (argY m c) b := by
  funext i j
  have term : start m c (Proc.devRef .tc main_v9) = Host.sqrt (addf (Host.reduceAdd (mulf
      (subf (broadcastInDim S16x2048x2048x3 ![0, 1, 2, 3] bcast_S16x2048x1x3_S16x2048x2048x3_0_1_2_3
          (broadcastInDim S16x2048x1x3 ![0, 1, 3] bcast_S16x2048x3_S16x2048x1x3_0_1_3 (argX m c)))
        (broadcastInDim S16x2048x2048x3 ![0, 1, 2, 3] bcast_S16x1x2048x3_S16x2048x2048x3_0_1_2_3
          (broadcastInDim S16x1x2048x3 ![0, 2, 3] bcast_S16x2048x3_S16x1x2048x3_0_2_3 (argY m c))))
      (subf (broadcastInDim S16x2048x2048x3 ![0, 1, 2, 3] bcast_S16x2048x1x3_S16x2048x2048x3_0_1_2_3
          (broadcastInDim S16x2048x1x3 ![0, 1, 3] bcast_S16x2048x3_S16x2048x1x3_0_1_3 (argX m c)))
        (broadcastInDim S16x2048x2048x3 ![0, 1, 2, 3] bcast_S16x1x2048x3_S16x2048x2048x3_0_1_2_3
          (broadcastInDim S16x1x2048x3 ![0, 2, 3] bcast_S16x2048x3_S16x1x2048x3_0_2_3 (argY m c)))))
      (constant S_ .f32 0x00000000#32) reducesTo_S16x2048x2048x3_S16x2048x2048_d3 h_S_)
      (broadcastInDim S16x2048x2048 ![] bcast_S_S16x2048x2048 (constant S_ .f32 0x2B8CBCCC#32))) := by
    show after hostOps0 _ (Proc.devRef .tc main_v9) = _
    after_results
    rfl
  unfold slab
  rw [term]
  pointwise
  rw [word_tiny]
  unfold pairCost distance
  with_reducible rfl

/-- Minus the costs over the temperature, before the loop. -/
theorem start_negCost (c : Dev nD) (b : Fin 16) :
    slab (start m c (Proc.devRef .tc main_v14)) b = negCost eps (pairCost (argX m c) (argY m c) b) := by
  have term : (start m c (Proc.devRef .tc main_v14) : FVec Ideal S16x2048x2048 .f32)
      = Host.divf (Host.negf (start m c (Proc.devRef .tc main_v9) : FVec Ideal S16x2048x2048 .f32))
        (broadcastInDim S16x2048x2048 ![] bcast_S_S16x2048x2048 (constant (F := Ideal) S_ .f32 0x3D4CCCCD#32)) := by
    show @Eq (FVec Ideal S16x2048x2048 .f32) (after hostOps0 (fun b => m (c, b)) (Proc.devRef .tc main_v14))
      (Host.divf (Host.negf (after hostOps0 (fun b => m (c, b)) (Proc.devRef .tc main_v9) : FVec Ideal S16x2048x2048 .f32)) _)
    after_results
  funext i j
  rw [← start_cost]
  unfold slab
  rw [term]
  generalize (start m c (Proc.devRef .tc main_v9) : FVec Ideal S16x2048x2048 .f32) = C
  pointwise
  rw [word_eps]
  unfold negCost
  with_reducible rfl

/-- The logarithm of the marginal weight, before the loop. -/
theorem start_logWeight (c : Dev nD) : entry (start m c (Proc.devRef .tc main_v11)) = (logW : EReal) := by
  have term : (start m c (Proc.devRef .tc main_v11) : FVec Ideal S_ .f32) = Host.negf (Host.log (constant (F := Ideal) S_ .f32 0x45000000#32)) := by
    show after hostOps0 _ (Proc.devRef .tc main_v11) = _
    after_results
  unfold entry
  rw [term]
  pointwise
  rw [word_n]
  rw [Ideal.log_coe, if_neg (by norm_num)]
  unfold logW
  exact (EReal.coe_neg _).symm

/-- The loop's copy of the logarithm of the marginal weight. -/
theorem start_carried0 (c : Dev nD) : start m c (Proc.devRef .tc main_v19_0) = start m c (Proc.devRef .tc main_v11) := by
  show after hostOps0 _ (Proc.devRef .tc main_v19_0) = after hostOps0 _ (Proc.devRef .tc main_v11)
  after_results
  rfl

/-- The loop's copy of minus the costs over the temperature. -/
theorem start_carried1 (c : Dev nD) : start m c (Proc.devRef .tc main_v19_1) = start m c (Proc.devRef .tc main_v14) := by
  show after hostOps0 _ (Proc.devRef .tc main_v19_1) = after hostOps0 _ (Proc.devRef .tc main_v14)
  after_results
  rfl

/-- The column potential starts at zero. -/
theorem start_potential (c : Dev nD) (b : Fin 16) : strip (start m c (Proc.devRef .tc main_v19_4)) b = fun _ => 0 := by
  have term : (start m c (Proc.devRef .tc main_v19_4) : FVec Ideal S16x2048 .f32) = broadcastInDim S16x2048 ![1] bcast_S2048_S16x2048_1
      (broadcastInDim S2048 ![] bcast_S_S2048 (constant (F := Ideal) S_ .f32 0x00000000#32)) := by
    show after hostOps0 _ (Proc.devRef .tc main_v19_4) = _
    after_results
    rfl
  funext j
  unfold strip
  rw [term]
  pointwise

/-- What the loop does not change, and the column potential, after `k` trips. -/
theorem trips (c : Dev nD) (b : Fin 16) : ∀ k,
    entry ((STEP^[k] (start m c)) (Proc.devRef .tc main_v19_0)) = (logW : EReal)
    ∧ slab ((STEP^[k] (start m c)) (Proc.devRef .tc main_v19_1)) b = negCost eps (pairCost (argX m c) (argY m c) b)
    ∧ strip ((STEP^[k] (start m c)) (Proc.devRef .tc main_v19_4)) b
        = (potTrip eps (logW : EReal) (negCost eps (pairCost (argX m c) (argY m c) b)))^[k] fun _ => 0
  | 0 => ⟨(congrArg entry (start_carried0 m c)).trans (start_logWeight m c),
      (congrArg (slab · b) (start_carried1 m c)).trans (start_negCost m c b), start_potential m c b⟩
  | k + 1 => by
    obtain ⟨h0, h1, h4⟩ := trips c b k
    rw [Function.iterate_succ_apply', Function.iterate_succ_apply', STEP_main_v19_0, STEP_main_v19_1, STEP_main_v19_4,
      colStep, h0, h1, h4]
    exact ⟨rfl, rfl, rfl⟩

/-- The row potential after the last trip. -/
theorem lastRow (c : Dev nD) (b : Fin 16) :
    strip ((STEP^[200] (start m c)) (Proc.devRef .tc main_v19_3)) b
      = rowPot eps (logW : EReal) (negCost eps (pairCost (argX m c) (argY m c) b))
          ((potTrip eps (logW : EReal) (negCost eps (pairCost (argX m c) (argY m c) b)))^[199] fun _ => 0) := by
  obtain ⟨h0, h1, h4⟩ := trips m c b 199
  rw [Function.iterate_succ_apply' STEP 199, STEP_main_v19_3, rowStep, h0, h1, h4]

/-- The column potential after the last trip. -/
theorem lastCol (c : Dev nD) (b : Fin 16) :
    strip ((STEP^[200] (start m c)) (Proc.devRef .tc main_v19_4)) b
      = potTrip eps (logW : EReal) (negCost eps (pairCost (argX m c) (argY m c) b))
          ((potTrip eps (logW : EReal) (negCost eps (pairCost (argX m c) (argY m c) b)))^[199] fun _ => 0) :=
  (trips m c b 200).2.2.trans (Function.iterate_succ_apply' _ 199 _)

/-- The sum of the transport costs from the two potentials, at its one entry. -/
theorem sum_at (lw : FVec Ideal S_ .f32) (f g : FVec Ideal S16x2048 .f32) (N C : FVec Ideal S16x2048x2048 .f32) (i : S_.Idx) :
    Host.reduceAdd (Host.reduceAdd (mulf (Host.exp (addf (addf
        (broadcastInDim S16x2048x2048 ![] bcast_S_S16x2048x2048 (mulf (constant S_ .f32 0x40000000#32) lw))
        (Host.divf (addf (broadcastInDim S16x2048x2048 ![0, 1, 2] bcast_S16x2048x1_S16x2048x2048_0_1_2
              (broadcastInDim S16x2048x1 ![0, 1] bcast_S16x2048_S16x2048x1_0_1 f))
            (broadcastInDim S16x2048x2048 ![0, 1, 2] bcast_S16x1x2048_S16x2048x2048_0_1_2
              (broadcastInDim S16x1x2048 ![0, 2] bcast_S16x2048_S16x1x2048_0_2 g)))
          (broadcastInDim S16x2048x2048 ![] bcast_S_S16x2048x2048 (constant S_ .f32 0x3D4CCCCD#32)))) N)) C)
      (constant S_ .f32 0x00000000#32) reducesTo_S16x2048x2048_S16_d1_2 h_S_)
      (constant S_ .f32 0x00000000#32) reducesTo_S16_S_d0 h_S_ i
      = ∑ b : Fin 16, ∑ i, ∑ j, Ideal.exp (((2 : ℝ) : EReal) * entry lw
          + Ideal.div (strip f b i + strip g b j) (eps : EReal) + slab N b i j) * slab C b i j := by
  pointwise
  rw [word_two, word_eps]
  unfold entry strip slab
  with_reducible rfl

/-- The operations after the loop, at their one entry. -/
theorem tail_at (V : Valuation τ sig (Elt Ideal)) (i : S_.Idx) :
    (after hostOps0_1 V (Proc.devRef .tc main_v34) : FVec Ideal S_ .f32) i
      = ∑ b : Fin 16, ∑ i, ∑ j, Ideal.exp (((2 : ℝ) : EReal) * entry (V (Proc.devRef .tc main_v11))
          + Ideal.div (strip (V (Proc.devRef .tc main_v19_3)) b i + strip (V (Proc.devRef .tc main_v19_4)) b j) (eps : EReal)
          + slab (V (Proc.devRef .tc main_v14)) b i j) * slab (V (Proc.devRef .tc main_v9)) b i j := by
  after_results
  exact sum_at _ _ _ _ _ i

/-- The reference's result: the sum of the pairs' transport costs. -/
def total (c : Dev nD) : EReal := ∑ b : Fin 16, referenceTotal eps (logW : EReal) 199 (pairCost (argX m c) (argY m c) b)

/-- The result buffer after the run. -/
theorem result_eq (c : Dev nD) :
    finalContents condOps preI bodyI postI 200 m c (Proc.devRef .tc main_v34) = fun _ => total m c := by
  show after hostOps0_1 (after condOps (atK m 200 c)) (Proc.devRef .tc main_v34) = _
  have agree : Agree (after condOps (atK m 200 c)) (STEP^[200] (start m c)) := fun r hr =>
    (cond_keeps (atK m 200 c) r hr).trans (atK_agree m c 200 r hr)
  have same : ∀ r : Ref sig .tc, r ∉ condOps_W → r ∉ while0Ops0_W →
      after condOps (atK m 200 c) (Proc.devRef .tc r) = start m c (Proc.devRef .tc r) := fun r hc hb =>
    (after_of_writes_sub condOps _ condOps_writes hc).trans (RefRun.untouched m c r hc hb 200)
  funext i
  refine (tail_at _ i).trans ?_
  show (_ : EReal) = total m c
  unfold total
  refine Finset.sum_congr rfl fun b _ => ?_
  rw [same main_v11 (by decide) (by decide), same main_v14 (by decide) (by decide), same main_v9 (by decide) (by decide),
    agree main_v19_3 (by decide), agree main_v19_4 (by decide), start_logWeight, start_negCost, start_cost, lastRow, lastCol]
  unfold referenceTotal potTotal
  with_reducible rfl

/-- The reference's run: it leaves the sum of the transport costs, and its arguments as they were. -/
theorem run : θ_run (defs (F := Ideal)) (onTc (τ := τ) (main (F := Ideal))) ⟨m, fun _ => 0, ρ⟩ fun r => ∀ c : Dev nD,
    r.2.mem (c.tc.loc main_v34) = (fun _ => total m c)
    ∧ r.2.mem (c.tc.loc main_arg0) = m (c.tc.loc main_arg0)
    ∧ r.2.mem (c.tc.loc main_arg1) = m (c.tc.loc main_arg1) :=
  (θ_run defs _ _).mono (fun _ h c => ⟨(h c main_v34 rfl).trans (result_eq m c),
    (h c main_arg0 rfl).trans (RefRun.kept m c main_arg0 (by decide) (by decide) (by decide) (by decide)),
    (h c main_arg1 rfl).trans (RefRun.kept m c main_arg1 (by decide) (by decide) (by decide) (by decide))⟩) (run_fold m ρ)

end Cert.RefValue

end
-- ==== Proof.lean ====
/- The certificate: the three programs' frames, the meaning of the kernel's named constants, and the equality of the kernel's
   and the reference's results over the extended reals, assembled from the two programs' runs and the equation between
   their transport costs. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelArray
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference terminates without fault, with its arguments unchanged and every semaphore counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono (fun r h =>
    ⟨fun c =>
      ⟨(h c Cert.ReferenceIdeal.main_arg0 rfl).trans
          (Cert.RefRun.kept m c Cert.ReferenceIdeal.main_arg0 (by decide) (by decide) (by decide) (by decide)),
        (h c Cert.ReferenceIdeal.main_arg1 rfl).trans
          (Cert.RefRun.kept m c Cert.ReferenceIdeal.main_arg1 (by decide) (by decide) (by decide) (by decide))⟩,
      Idealize.ShloMosaic.sem_eq_zero_of_no_sems (by decide) r.2⟩) (Cert.ReferenceIdeal.Value.run_fold m ρ)

/-- Each renamed literal of the kernel is, over the extended reals, the bound that its name stands for. -/
theorem preserves : preserves_Kernel_KernelIdeal :=
  ⟨IdealRules.named_const.statement Cert.KernelIdeal.κ "floor" .f32 0x0554AD2E#32 ⊥ rfl,
    IdealRules.named_const.statement Cert.KernelIdeal.κ "cap" .f32 0x7149F2CA#32 ⊤ rfl,
    IdealRules.named_const.statement Cert.KernelIdeal.κ "log_floor" .f32 0x02081CEA#32 ⊥ rfl⟩

/-- On equal arguments the sum of the kernel's scaled transport costs is the sum of the reference's. -/
theorem totals_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hx : Cert.RefValue.argX m' c = Cert.KernelArray.argX m c)
    (hy : Cert.RefValue.argY m' c = Cert.KernelArray.argY m c) :
    Cert.RefValue.total m' c = Cert.KernelArray.total m c := by
  unfold Cert.RefValue.total Cert.KernelArray.total
  rw [hx, hy]
  exact Finset.sum_congr rfl fun b _ => (Cert.Sinkhorn.cloud_eq Cert.Consts.eps Cert.Consts.w Cert.Consts.logW
    Cert.Consts.tiny Cert.Consts.eps_pos Cert.Consts.w_pos Cert.Consts.exp_logW Cert.Consts.tiny_nonneg 199
    (Cert.KernelArray.point (Cert.KernelArray.argX m c) b) (Cert.KernelArray.point (Cert.KernelArray.argY m c) b)).symm

/-- Kernel and reference compute the same value over the extended reals, for all arguments. -/
theorem algebraic : algebraic_KernelIdeal_ReferenceIdeal :=
  fun m g m' g' _ agree => ⟨fun c _ => Cert.KernelArray.total m c, Cert.KernelArray.run m g,
    (θ_run Cert.ReferenceIdeal.defs _ _).mono (fun _ h c => ⟨(h c).1.trans
      (funext fun _ => totals_eq m m' c (agree c).1 (agree c).2), (h c).2⟩) (Cert.RefValue.run m' g')⟩

/-- All the claims of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => reference_frame m ρ, preserves, algebraic⟩

end Cert.Proof

end
